-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = m' (((0 : Dev Cert.ReferenceIdeal.nD).tc : Thread Cert.ReferenceIdeal.nD Cert.ReferenceIdeal.τ).loc Cert.ReferenceIdeal.main_arg0)
      ∧ m ((c.tc : Thread Cert.KernelIdeal.nD Cert.KernelIdeal.τ).loc Cert.KernelIdeal.main_arg1) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg1))
      ∧ m ((c.tc : Thread Cert.KernelIdeal.nD Cert.KernelIdeal.τ).loc Cert.KernelIdeal.main_arg2) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg2))
      ∧ m ((c.tc : Thread Cert.KernelIdeal.nD Cert.KernelIdeal.τ).loc Cert.KernelIdeal.main_arg3) = Layout.block ⟨2, ![512, 256]⟩ ⟨2, ![512, 1024]⟩ 1 4 c (m' (((0 : Dev Cert.ReferenceIdeal.nD).tc : Thread Cert.ReferenceIdeal.nD Cert.ReferenceIdeal.τ).loc Cert.ReferenceIdeal.main_arg3))
      ∧ m ((c.tc : Thread Cert.KernelIdeal.nD Cert.KernelIdeal.τ).loc Cert.KernelIdeal.main_arg4) = Layout.block ⟨2, ![256, 512]⟩ ⟨2, ![1024, 512]⟩ 0 4 c (m' (((0 : Dev Cert.ReferenceIdeal.nD).tc : Thread Cert.ReferenceIdeal.nD Cert.ReferenceIdeal.τ).loc Cert.ReferenceIdeal.main_arg4))) →
    ∃ (v0 : Buf (Elt Ideal) (((0 : Dev Cert.ReferenceIdeal.nD).tc : Thread Cert.ReferenceIdeal.nD Cert.ReferenceIdeal.τ).loc Cert.ReferenceIdeal.main_v87)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r =>
          r.2.mem (((0 : Dev Cert.ReferenceIdeal.nD).tc : Thread Cert.ReferenceIdeal.nD Cert.ReferenceIdeal.τ).loc Cert.ReferenceIdeal.main_v87) = v0
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0)
          ∧ r.2.mem (((0 : Dev Cert.ReferenceIdeal.nD).tc : Thread Cert.ReferenceIdeal.nD Cert.ReferenceIdeal.τ).loc Cert.ReferenceIdeal.main_arg1) = m' (((0 : Dev Cert.ReferenceIdeal.nD).tc : Thread Cert.ReferenceIdeal.nD Cert.ReferenceIdeal.τ).loc Cert.ReferenceIdeal.main_arg1)
          ∧ r.2.mem (((0 : Dev Cert.ReferenceIdeal.nD).tc : Thread Cert.ReferenceIdeal.nD Cert.ReferenceIdeal.τ).loc Cert.ReferenceIdeal.main_arg2) = m' (((0 : Dev Cert.ReferenceIdeal.nD).tc : Thread Cert.ReferenceIdeal.nD Cert.ReferenceIdeal.τ).loc Cert.ReferenceIdeal.main_arg2)
          ∧ r.2.mem (((0 : Dev Cert.ReferenceIdeal.nD).tc : Thread Cert.ReferenceIdeal.nD Cert.ReferenceIdeal.τ).loc Cert.ReferenceIdeal.main_arg3) = m' (((0 : Dev Cert.ReferenceIdeal.nD).tc : Thread Cert.ReferenceIdeal.nD Cert.ReferenceIdeal.τ).loc Cert.ReferenceIdeal.main_arg3)
          ∧ r.2.mem (((0 : Dev Cert.ReferenceIdeal.nD).tc : Thread Cert.ReferenceIdeal.nD Cert.ReferenceIdeal.τ).loc Cert.ReferenceIdeal.main_arg4) = m' (((0 : Dev Cert.ReferenceIdeal.nD).tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S2x128x512 : Shape := ⟨3, ![2, 128, 512]⟩
abbrev S512x256 : Shape := ⟨2, ![512, 256]⟩
abbrev S256x512 : Shape := ⟨2, ![256, 512]⟩
abbrev S2 : Shape := ⟨1, ![2]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S1x2 : Shape := ⟨2, ![1, 2]⟩
abbrev S32x2 : Shape := ⟨2, ![32, 2]⟩
abbrev S64 : Shape := ⟨1, ![64]⟩
abbrev S1x64 : Shape := ⟨2, ![1, 64]⟩
abbrev S1x128x1x64 : Shape := ⟨4, ![1, 128, 1, 64]⟩
abbrev S2x128x4x64 : Shape := ⟨4, ![2, 128, 4, 64]⟩
abbrev S256x256 : Shape := ⟨2, ![256, 256]⟩
abbrev S256 : Shape := ⟨1, ![256]⟩
abbrev S1x256 : Shape := ⟨2, ![1, 256]⟩
abbrev S256x1 : Shape := ⟨2, ![256, 1]⟩
abbrev S4x64x512 : Shape := ⟨3, ![4, 64, 512]⟩
abbrev S3 : Shape := ⟨1, ![3]⟩
abbrev S4 : Shape := ⟨1, ![4]⟩
abbrev S128x128 : Shape := ⟨2, ![128, 128]⟩
abbrev S64x512 : Shape := ⟨2, ![64, 512]⟩
abbrev S1x64x512 : Shape := ⟨3, ![1, 64, 512]⟩
abbrev S1 : Shape := ⟨1, ![1]⟩

abbrev nBuf : Space → Nat
  | .hbm => 62
  | .vmem => 13
  | .smem => 0
  | _ => 0

abbrev bufTy : (tb : Table) → Fin (tcTables nBuf tb) → BufTy
  | .hbm, ⟨0, _⟩ => ⟨S2x128x512, .bf16⟩
  | .hbm, ⟨1, _⟩ => ⟨S512x256, .bf16⟩
  | .hbm, ⟨2, _⟩ => ⟨S512x256, .bf16⟩
  | .hbm, ⟨3, _⟩ => ⟨S512x256, .bf16⟩
  | .hbm, ⟨4, _⟩ => ⟨S256x512, .bf16⟩
  | .hbm, ⟨5, _⟩ => ⟨S2, .f32⟩
  | .hbm, ⟨6, _⟩ => ⟨S32, .i32⟩
  | .hbm, ⟨7, _⟩ => ⟨S_, .i32⟩
  | .hbm, ⟨8, _⟩ => ⟨S32, .i32⟩
  | .hbm, ⟨9, _⟩ => ⟨S32, .i32⟩
  | .hbm, ⟨10, _⟩ => ⟨S_, .i32⟩
  | .hbm, ⟨11, _⟩ => ⟨S32, .i32⟩
  | .hbm, ⟨12, _⟩ => ⟨S32, .i32⟩
  | .hbm, ⟨13, _⟩ => ⟨S32, .f32⟩
  | .hbm, ⟨14, _⟩ => ⟨S_, .f32⟩
  | .hbm, ⟨15, _⟩ => ⟨S32, .f32⟩
  | .hbm, ⟨16, _⟩ => ⟨S32, .f32⟩
  | .hbm, ⟨17, _⟩ => ⟨S_, .f32⟩
  | .hbm, ⟨18, _⟩ => ⟨S32, .f32⟩
  | .hbm, ⟨19, _⟩ => ⟨S32, .f32⟩
  | .hbm, ⟨20, _⟩ => ⟨S_, .f32⟩
  | .hbm, ⟨21, _⟩ => ⟨S32, .f32⟩
  | .hbm, ⟨22, _⟩ => ⟨S32, .f32⟩
  | .hbm, ⟨23, _⟩ => ⟨S128, .i32⟩
  | .hbm, ⟨24, _⟩ => ⟨S128x1, .i32⟩
  | .hbm, ⟨25, _⟩ => ⟨S1x32, .f32⟩
  | .hbm, ⟨26, _⟩ => ⟨S128x1, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32, .f32⟩
  | .hbm, ⟨31, _⟩ => ⟨S128x32x2, .f32⟩
  | .hbm, ⟨32, _⟩ => ⟨S128x64, .f32⟩
  | .hbm, ⟨33, _⟩ => ⟨S128x32, .f32⟩
  | .hbm, ⟨34, _⟩ => ⟨S128x32x2, .f32⟩
  | .hbm, ⟨35, _⟩ => ⟨S128x64, .f32⟩
  | .hbm, ⟨36, _⟩ => ⟨S1x2, .f32⟩
  | .hbm, ⟨37, _⟩ => ⟨S32x2, .f32⟩
  | .hbm, ⟨38, _⟩ => ⟨S64, .f32⟩
  | .hbm, ⟨39, _⟩ => ⟨S1x64, .f32⟩
  | .hbm, ⟨40, _⟩ => ⟨S128x64, .f32⟩
  | .hbm, ⟨41, _⟩ => ⟨S128x64, .f32⟩
  | .hbm, ⟨42, _⟩ => ⟨S1x128x1x64, .f32⟩
  | .hbm, ⟨43, _⟩ => ⟨S2x128x4x64, .f32⟩
  | .hbm, ⟨44, _⟩ => ⟨S256x256, .f32⟩
  | .hbm, ⟨45, _⟩ => ⟨S1x128x1x64, .f32⟩
  | .hbm, ⟨46, _⟩ => ⟨S2x128x4x64, .f32⟩
  | .hbm, ⟨47, _⟩ => ⟨S256x256, .f32⟩
  | .hbm, ⟨48, _⟩ => ⟨S256, .i32⟩
  | .hbm, ⟨49, _⟩ => ⟨S1x256, .i32⟩
  | .hbm, ⟨50, _⟩ => ⟨S_, .i32⟩
  | .hbm, ⟨51, _⟩ => ⟨S256, .i32⟩
  | .hbm, ⟨52, _⟩ => ⟨S256, .i32⟩
  | .hbm, ⟨53, _⟩ => ⟨S256x1, .i32⟩
  | .hbm, ⟨54, _⟩ => ⟨S256x256, .i32⟩
  | .hbm, ⟨55, _⟩ => ⟨S256x256, .i32⟩
  | .hbm, ⟨56, _⟩ => ⟨S256x256, .i1⟩
  | .hbm, ⟨57, _⟩ => ⟨S256x256, .f32⟩
  | .hbm, ⟨58, _⟩ => ⟨S256x512, .bf16⟩
  | .hbm, ⟨59, _⟩ => ⟨S256x256, .bf16⟩
  | .hbm, ⟨60, _⟩ => ⟨S256x512, .f32⟩
  | .hbm, ⟨61, _⟩ => ⟨S2x128x512, .f32⟩
  | .local _ .vmem, ⟨0, _⟩ => ⟨S256x512, .bf16⟩
  | .local _ .vmem, ⟨1, _⟩ => ⟨S512x256, .bf16⟩
  | .local _ .vmem, ⟨2, _⟩ => ⟨S512x256, .bf16⟩
  | .local _ .vmem, ⟨3, _⟩ => ⟨S512x256, .bf16⟩
  | .local _ .vmem, ⟨4, _⟩ => ⟨S256x512, .bf16⟩
  | .local _ .vmem, ⟨5, _⟩ => ⟨S256x256, .f32⟩
  | .local _ .vmem, ⟨6, _⟩ => ⟨S256x256, .f32⟩
  | .local _ .vmem, ⟨7, _⟩ => ⟨S256x256, .bf16⟩
  | .local _ .vmem, ⟨8, _⟩ => ⟨S256x512, .f32⟩
  | .local _ .vmem, ⟨9, _⟩ => ⟨S256x256, .bf16⟩
  | .local _ .vmem, ⟨10, _⟩ => ⟨S4x64x512, .bf16⟩
  | .local _ .vmem, ⟨11, _⟩ => ⟨S4x64x512, .bf16⟩
  | .local _ .vmem, ⟨12, _⟩ => ⟨S4x64x512, .bf16⟩
  | _, _ => ⟨S2x128x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 1 → Bool
  | ⟨0, _⟩ => false
  | _ => false

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  (ofTc nBuf bufTy 1 23 bufScoped semScoped dmaSemScoped tileCredit tileCredit_eq_zero tileCredit_pos).withBarriers [(0, 0)]

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_cst_2 : Ref sig .tc := ⟨.hbm, 17, rfl⟩
abbrev main_v9 : Ref sig .tc := ⟨.hbm, 18, rfl⟩
abbrev main_v10 : Ref sig .tc := ⟨.hbm, 19, rfl⟩
abbrev main_cst_3 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_c_4 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_scratch0 : Ref sig .tc := ⟨.vmem, 9, rfl⟩
abbrev cc0_scratch1 : Ref sig .tc := ⟨.vmem, 10, rfl⟩
abbrev cc0_scratch2 : Ref sig .tc := ⟨.vmem, 11, rfl⟩
abbrev cc0_scratch3 : Ref sig .tc := ⟨.vmem, 12, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32_8 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let c0_i32 : BitVec 32 := 0#32
  let v5 : BitVec 1 := Scalar.cmpi .eq c4_i32_1 c0_i32
  let c1_i32_2 : BitVec 32 := 1#32
  let v6 : BitVec 32 := Scalar.select v5 c1_i32_2 c4_i32_1
  let v7 : BitVec 32 := Scalar.remsi v4 v6
  let c0_i32_4 : BitVec 32 := 0#32
  let v9 : BitVec 1 := Scalar.cmpi .slt v7 c0_i32_4
  let c0_i32_5 : BitVec 32 := 0#32
  let v10 : BitVec 1 := Scalar.cmpi .slt v6 c0_i32_5
  let v11 : BitVec 1 := Scalar.xori v9 v10
  let c0_i32_3 : BitVec 32 := 0#32
  let v8 : BitVec 1 := Scalar.cmpi .ne v7 c0_i32_3
  let v12 : BitVec 1 := Scalar.andi v11 v8
  let v13 : BitVec 32 := Scalar.addi v7 v6
  let v14 : BitVec 32 := Scalar.select v12 v13 v7
  let c1_i32_7 : BitVec 32 := 1#32
  let v15 : BitVec 32 := Scalar.muli v14 c1_i32_7
  let v16 : BitVec 32 := Scalar.addi c0_i32_8 v15
  v16.toNat
def k0_dev2 (d0 : Dev nD) : Nat :=
  let c0_i32_17 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v17 : BitVec 32 := Scalar.addi v2 c2_i32
  let c4_i32_9 : BitVec 32 := 4#32
  let c0_i32_10 : BitVec 32 := 0#32
  let v18 : BitVec 1 := Scalar.cmpi .eq c4_i32_9 c0_i32_10
  let c1_i32_11 : BitVec 32 := 1#32
  let v19 : BitVec 32 := Scalar.select v18 c1_i32_11 c4_i32_9
  let v20 : BitVec 32 := Scalar.remsi v17 v19
  let c0_i32_13 : BitVec 32 := 0#32
  let v22 : BitVec 1 := Scalar.cmpi .slt v20 c0_i32_13
  let c0_i32_14 : BitVec 32 := 0#32
  let v23 : BitVec 1 := Scalar.cmpi .slt v19 c0_i32_14
  let v24 : BitVec 1 := Scalar.xori v22 v23
  let c0_i32_12 : BitVec 32 := 0#32
  let v21 : BitVec 1 := Scalar.cmpi .ne v20 c0_i32_12
  let v25 : BitVec 1 := Scalar.andi v24 v21
  let v26 : BitVec 32 := Scalar.addi v20 v19
  let v27 : BitVec 32 := Scalar.select v25 v26 v20
  let c1_i32_16 : BitVec 32 := 1#32
  let v28 : BitVec 32 := Scalar.muli v27 c1_i32_16
  let v29 : BitVec 32 := Scalar.addi c0_i32_17 v28
  v29.toNat
def k0_dev3 (d0 : Dev nD) : Nat :=
  let c0_i32_26 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v30 : BitVec 32 := Scalar.addi v2 c3_i32
  let c4_i32_18 : BitVec 32 := 4#32
  let c0_i32_19 : BitVec 32 := 0#32
  let v31 : BitVec 1 := Scalar.cmpi .eq c4_i32_18 c0_i32_19
  let c1_i32_20 : BitVec 32 := 1#32
  let v32 : BitVec 32 := Scalar.select v31 c1_i32_20 c4_i32_18
  let v33 : BitVec 32 := Scalar.remsi v30 v32
  let c0_i32_22 : BitVec 32 := 0#32
  let v35 : BitVec 1 := Scalar.cmpi .slt v33 c0_i32_22
  let c0_i32_23 : BitVec 32 := 0#32
  let v36 : BitVec 1 := Scalar.cmpi .slt v32 c0_i32_23
  let v37 : BitVec 1 := Scalar.xori v35 v36
  let c0_i32_21 : BitVec 32 := 0#32
  let v34 : BitVec 1 := Scalar.cmpi .ne v33 c0_i32_21
  let v38 : BitVec 1 := Scalar.andi v37 v34
  let v39 : BitVec 32 := Scalar.addi v33 v32
  let v40 : BitVec 32 := Scalar.select v38 v39 v33
  let c1_i32_25 : BitVec 32 := 1#32
  let v41 : BitVec 32 := Scalar.muli v40 c1_i32_25
  let v42 : BitVec 32 := Scalar.addi c0_i32_26 v41
  v42.toNat
def k0_off1 (d0 : Dev nD) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  ![v2.toNat]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_128 : BitVec 32 := 0#32
  let c0_i32_129 : BitVec 32 := 0#32
  ![v2.toNat, 0, 0]
def k0_off3 (d0 : Dev nD) (c1_i32_118 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v268 : BitVec 32 := Scalar.addi v2 c1_i32_118
  let c4_i32_119 : BitVec 32 := 4#32
  let c0_i32_120 : BitVec 32 := 0#32
  let v269 : BitVec 1 := Scalar.cmpi .eq c4_i32_119 c0_i32_120
  let c1_i32_121 : BitVec 32 := 1#32
  let v270 : BitVec 32 := Scalar.select v269 c1_i32_121 c4_i32_119
  let v271 : BitVec 32 := Scalar.remsi v268 v270
  let c0_i32_123 : BitVec 32 := 0#32
  let v273 : BitVec 1 := Scalar.cmpi .slt v271 c0_i32_123
  let c0_i32_124 : BitVec 32 := 0#32
  let v274 : BitVec 1 := Scalar.cmpi .slt v270 c0_i32_124
  let v275 : BitVec 1 := Scalar.xori v273 v274
  let c0_i32_122 : BitVec 32 := 0#32
  let v272 : BitVec 1 := Scalar.cmpi .ne v271 c0_i32_122
  let v276 : BitVec 1 := Scalar.andi v275 v272
  let v277 : BitVec 32 := Scalar.addi v271 v270
  let v278 : BitVec 32 := Scalar.select v276 v277 v271
  let c0_i32_130 : BitVec 32 := 0#32
  let c0_i32_131 : BitVec 32 := 0#32
  ![v278.toNat, 0, 0]
def k0_dev4 (d0 : Dev nD) : Nat :=
  let c0_i32_127 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_118 : BitVec 32 := 1#32
  let v268 : BitVec 32 := Scalar.addi v2 c1_i32_118
  let c4_i32_119 : BitVec 32 := 4#32
  let c0_i32_120 : BitVec 32 := 0#32
  let v269 : BitVec 1 := Scalar.cmpi .eq c4_i32_119 c0_i32_120
  let c1_i32_121 : BitVec 32 := 1#32
  let v270 : BitVec 32 := Scalar.select v269 c1_i32_121 c4_i32_119
  let v271 : BitVec 32 := Scalar.remsi v268 v270
  let c0_i32_123 : BitVec 32 := 0#32
  let v273 : BitVec 1 := Scalar.cmpi .slt v271 c0_i32_123
  let c0_i32_124 : BitVec 32 := 0#32
  let v274 : BitVec 1 := Scalar.cmpi .slt v270 c0_i32_124
  let v275 : BitVec 1 := Scalar.xori v273 v274
  let c0_i32_122 : BitVec 32 := 0#32
  let v272 : BitVec 1 := Scalar.cmpi .ne v271 c0_i32_122
  let v276 : BitVec 1 := Scalar.andi v275 v272
  let v277 : BitVec 32 := Scalar.addi v271 v270
  let v278 : BitVec 32 := Scalar.select v276 v277 v271
  let c1_i32_126 : BitVec 32 := 1#32
  let v279 : BitVec 32 := Scalar.muli v278 c1_i32_126
  let v280 : BitVec 32 := Scalar.addi c0_i32_127 v279
  v280.toNat
def k0_dev5 (d0 : Dev nD) : Nat :=
  let c0_i32_141 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_132 : BitVec 32 := 2#32
  let v289 : BitVec 32 := Scalar.addi v2 c2_i32_132
  let c4_i32_133 : BitVec 32 := 4#32
  let c0_i32_134 : BitVec 32 := 0#32
  let v290 : BitVec 1 := Scalar.cmpi .eq c4_i32_133 c0_i32_134
  let c1_i32_135 : BitVec 32 := 1#32
  let v291 : BitVec 32 := Scalar.select v290 c1_i32_135 c4_i32_133
  let v292 : BitVec 32 := Scalar.remsi v289 v291
  let c0_i32_137 : BitVec 32 := 0#32
  let v294 : BitVec 1 := Scalar.cmpi .slt v292 c0_i32_137
  let c0_i32_138 : BitVec 32 := 0#32
  let v295 : BitVec 1 := Scalar.cmpi .slt v291 c0_i32_138
  let v296 : BitVec 1 := Scalar.xori v294 v295
  let c0_i32_136 : BitVec 32 := 0#32
  let v293 : BitVec 1 := Scalar.cmpi .ne v292 c0_i32_136
  let v297 : BitVec 1 := Scalar.andi v296 v293
  let v298 : BitVec 32 := Scalar.addi v292 v291
  let v299 : BitVec 32 := Scalar.select v297 v298 v292
  let c1_i32_140 : BitVec 32 := 1#32
  let v300 : BitVec 32 := Scalar.muli v299 c1_i32_140
  let v301 : BitVec 32 := Scalar.addi c0_i32_141 v300
  v301.toNat
def k0_dev6 (d0 : Dev nD) : Nat :=
  let c0_i32_155 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_146 : BitVec 32 := 3#32
  let v310 : BitVec 32 := Scalar.addi v2 c3_i32_146
  let c4_i32_147 : BitVec 32 := 4#32
  let c0_i32_148 : BitVec 32 := 0#32
  let v311 : BitVec 1 := Scalar.cmpi .eq c4_i32_147 c0_i32_148
  let c1_i32_149 : BitVec 32 := 1#32
  let v312 : BitVec 32 := Scalar.select v311 c1_i32_149 c4_i32_147
  let v313 : BitVec 32 := Scalar.remsi v310 v312
  let c0_i32_151 : BitVec 32 := 0#32
  let v315 : BitVec 1 := Scalar.cmpi .slt v313 c0_i32_151
  let c0_i32_152 : BitVec 32 := 0#32
  let v316 : BitVec 1 := Scalar.cmpi .slt v312 c0_i32_152
  let v317 : BitVec 1 := Scalar.xori v315 v316
  let c0_i32_150 : BitVec 32 := 0#32
  let v314 : BitVec 1 := Scalar.cmpi .ne v313 c0_i32_150
  let v318 : BitVec 1 := Scalar.andi v317 v314
  let v319 : BitVec 32 := Scalar.addi v313 v312
  let v320 : BitVec 32 := Scalar.select v318 v319 v313
  let c1_i32_154 : BitVec 32 := 1#32
  let v321 : BitVec 32 := Scalar.muli v320 c1_i32_154
  let v322 : BitVec 32 := Scalar.addi c0_i32_155 v321
  v322.toNat
def k0_off4 (d0 : Dev nD) (c1_i32_160 : BitVec 32) : Fin 1 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v331 : BitVec 32 := Scalar.addi v2 c1_i32_160
  let c4_i32_161 : BitVec 32 := 4#32
  let c0_i32_162 : BitVec 32 := 0#32
  let v332 : BitVec 1 := Scalar.cmpi .eq c4_i32_161 c0_i32_162
  let c1_i32_163 : BitVec 32 := 1#32
  let v333 : BitVec 32 := Scalar.select v332 c1_i32_163 c4_i32_161
  let v334 : BitVec 32 := Scalar.remsi v331 v333
  let c0_i32_165 : BitVec 32 := 0#32
  let v336 : BitVec 1 := Scalar.cmpi .slt v334 c0_i32_165
  let c0_i32_166 : BitVec 32 := 0#32
  let v337 : BitVec 1 := Scalar.cmpi .slt v333 c0_i32_166
  let v338 : BitVec 1 := Scalar.xori v336 v337
  let c0_i32_164 : BitVec 32 := 0#32
  let v335 : BitVec 1 := Scalar.cmpi .ne v334 c0_i32_164
  let v339 : BitVec 1 := Scalar.andi v338 v335
  let v340 : BitVec 32 := Scalar.addi v334 v333
  let v341 : BitVec 32 := Scalar.select v339 v340 v334
  ![v341.toNat]
def k0_off5 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v388 : Index := Scalar.indexCast v2
  let c0_202 : Index := 0#32
  let c0_203 : Index := 0#32
  ![v388.toNat, 0, 0]
def k0_off6 (d0 : Dev nD) (c1_i32_204 : BitVec 32) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v392 : BitVec 32 := Scalar.addi v2 c1_i32_204
  let c4_i32_205 : BitVec 32 := 4#32
  let c0_i32_206 : BitVec 32 := 0#32
  let v393 : BitVec 1 := Scalar.cmpi .eq c4_i32_205 c0_i32_206
  let c1_i32_207 : BitVec 32 := 1#32
  let v394 : BitVec 32 := Scalar.select v393 c1_i32_207 c4_i32_205
  let v395 : BitVec 32 := Scalar.remsi v392 v394
  let c0_i32_209 : BitVec 32 := 0#32
  let v397 : BitVec 1 := Scalar.cmpi .slt v395 c0_i32_209
  let c0_i32_210 : BitVec 32 := 0#32
  let v398 : BitVec 1 := Scalar.cmpi .slt v394 c0_i32_210
  let v399 : BitVec 1 := Scalar.xori v397 v398
  let c0_i32_208 : BitVec 32 := 0#32
  let v396 : BitVec 1 := Scalar.cmpi .ne v395 c0_i32_208
  let v400 : BitVec 1 := Scalar.andi v399 v396
  let v401 : BitVec 32 := Scalar.addi v395 v394
  let v402 : BitVec 32 := Scalar.select v400 v401 v395
  let v403 : Index := Scalar.indexCast v402
  let c0_211 : Index := 0#32
  let c0_212 : Index := 0#32
  ![v403.toNat, 0, 0]
def k0_dev7 (d0 : Dev nD) : Nat :=
  let c0_i32_242 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_233 : BitVec 32 := 1#32
  let v445 : BitVec 32 := Scalar.addi v2 c1_i32_233
  let c4_i32_234 : BitVec 32 := 4#32
  let c0_i32_235 : BitVec 32 := 0#32
  let v446 : BitVec 1 := Scalar.cmpi .eq c4_i32_234 c0_i32_235
  let c1_i32_236 : BitVec 32 := 1#32
  let v447 : BitVec 32 := Scalar.select v446 c1_i32_236 c4_i32_234
  let v448 : BitVec 32 := Scalar.remsi v445 v447
  let c0_i32_238 : BitVec 32 := 0#32
  let v450 : BitVec 1 := Scalar.cmpi .slt v448 c0_i32_238
  let c0_i32_239 : BitVec 32 := 0#32
  let v451 : BitVec 1 := Scalar.cmpi .slt v447 c0_i32_239
  let v452 : BitVec 1 := Scalar.xori v450 v451
  let c0_i32_237 : BitVec 32 := 0#32
  let v449 : BitVec 1 := Scalar.cmpi .ne v448 c0_i32_237
  let v453 : BitVec 1 := Scalar.andi v452 v449
  let v454 : BitVec 32 := Scalar.addi v448 v447
  let v455 : BitVec 32 := Scalar.select v453 v454 v448
  let c1_i32_241 : BitVec 32 := 1#32
  let v456 : BitVec 32 := Scalar.muli v455 c1_i32_241
  let v457 : BitVec 32 := Scalar.addi c0_i32_242 v456
  v457.toNat
def k0_dev8 (d0 : Dev nD) : Nat :=
  let c0_i32_256 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_247 : BitVec 32 := 2#32
  let v466 : BitVec 32 := Scalar.addi v2 c2_i32_247
  let c4_i32_248 : BitVec 32 := 4#32
  let c0_i32_249 : BitVec 32 := 0#32
  let v467 : BitVec 1 := Scalar.cmpi .eq c4_i32_248 c0_i32_249
  let c1_i32_250 : BitVec 32 := 1#32
  let v468 : BitVec 32 := Scalar.select v467 c1_i32_250 c4_i32_248
  let v469 : BitVec 32 := Scalar.remsi v466 v468
  let c0_i32_252 : BitVec 32 := 0#32
  let v471 : BitVec 1 := Scalar.cmpi .slt v469 c0_i32_252
  let c0_i32_253 : BitVec 32 := 0#32
  let v472 : BitVec 1 := Scalar.cmpi .slt v468 c0_i32_253
  let v473 : BitVec 1 := Scalar.xori v471 v472
  let c0_i32_251 : BitVec 32 := 0#32
  let v470 : BitVec 1 := Scalar.cmpi .ne v469 c0_i32_251
  let v474 : BitVec 1 := Scalar.andi v473 v470
  let v475 : BitVec 32 := Scalar.addi v469 v468
  let v476 : BitVec 32 := Scalar.select v474 v475 v469
  let c1_i32_255 : BitVec 32 := 1#32
  let v477 : BitVec 32 := Scalar.muli v476 c1_i32_255
  let v478 : BitVec 32 := Scalar.addi c0_i32_256 v477
  v478.toNat
def k0_dev9 (d0 : Dev nD) : Nat :=
  let c0_i32_270 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_261 : BitVec 32 := 3#32
  let v487 : BitVec 32 := Scalar.addi v2 c3_i32_261
  let c4_i32_262 : BitVec 32 := 4#32
  let c0_i32_263 : BitVec 32 := 0#32
  let v488 : BitVec 1 := Scalar.cmpi .eq c4_i32_262 c0_i32_263
  let c1_i32_264 : BitVec 32 := 1#32
  let v489 : BitVec 32 := Scalar.select v488 c1_i32_264 c4_i32_262
  let v490 : BitVec 32 := Scalar.remsi v487 v489
  let c0_i32_266 : BitVec 32 := 0#32
  let v492 : BitVec 1 := Scalar.cmpi .slt v490 c0_i32_266
  let c0_i32_267 : BitVec 32 := 0#32
  let v493 : BitVec 1 := Scalar.cmpi .slt v489 c0_i32_267
  let v494 : BitVec 1 := Scalar.xori v492 v493
  let c0_i32_265 : BitVec 32 := 0#32
  let v491 : BitVec 1 := Scalar.cmpi .ne v490 c0_i32_265
  let v495 : BitVec 1 := Scalar.andi v494 v491
  let v496 : BitVec 32 := Scalar.addi v490 v489
  let v497 : BitVec 32 := Scalar.select v495 v496 v490
  let c1_i32_269 : BitVec 32 := 1#32
  let v498 : BitVec 32 := Scalar.muli v497 c1_i32_269
  let v499 : BitVec 32 := Scalar.addi c0_i32_270 v498
  v499.toNat
abbrev stage0_0 : Fin 1 → Memref sig .tc .vmem S256x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x256 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S256x512 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S256x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S256x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S256x256 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S256x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== ReferenceIdeal.lean ====
abbrev S2x128x512 : Shape := ⟨3, ![2, 128, 512]⟩
abbrev S512x1024 : Shape := ⟨2, ![512, 1024]⟩
abbrev S1024x512 : Shape := ⟨2, ![1024, 512]⟩
abbrev S32 : Shape := ⟨1, ![32]⟩
abbrev S_ : Shape := ⟨0, ![]⟩
abbrev S128 : Shape := ⟨1, ![128]⟩
abbrev S128x1 : Shape := ⟨2, ![128, 1]⟩
abbrev S1x32 : Shape := ⟨2, ![1, 32]⟩
abbrev S128x32 : Shape := ⟨2, ![128, 32]⟩
abbrev S128x32x2 : Shape := ⟨3, ![128, 32, 2]⟩
abbrev S128x64 : Shape := ⟨2, ![128, 64]⟩
abbrev S2x128x1024 : Shape := ⟨3, ![2, 128, 1024]⟩
abbrev S2x128x16x64 : Shape := ⟨4, ![2, 128, 16, 64]⟩
abbrev S2x128x16x32x2 : Shape := ⟨5, ![2, 128, 16, 32, 2]⟩
abbrev S2x128x16x32x1 : Shape := ⟨5, ![2, 128, 16, 32, 1]⟩
abbrev S2x128x16x32 : Shape := ⟨4, ![2, 128, 16, 32]⟩
abbrev S1x128x1x64 : Shape := ⟨4, ![1, 128, 1, 64]⟩
abbrev S2x16x128x128 : Shape := ⟨4, ![2, 16, 128, 128]⟩
abbrev S2x16x128 : Shape := ⟨3, ![2, 16, 128]⟩
abbrev S2x16x128x1 : Shape := ⟨4, ![2, 16, 128, 1]⟩
abbrev S2x16x64x128 : Shape := ⟨4, ![2, 16, 64, 128]⟩

abbrev nBuf : Space → Nat
  | .hbm => 101
  | .vmem => 0
  | .smem => 0
  | _ => 0

abbrev bufTy : (tb : Table) → Fin (tcTables nBuf tb) → BufTy
  | .hbm, ⟨0, _⟩ => ⟨S2x128x512, .bf16⟩
  | .hbm, ⟨1, _⟩ => ⟨S512x1024, .bf16⟩
  | .hbm, ⟨2, _⟩ => ⟨S512x1024, .bf16⟩
  | .hbm, ⟨3, _⟩ => ⟨S512x1024, .bf16⟩
  | .hbm, ⟨4, _⟩ => ⟨S1024x512, .bf16⟩
  | .hbm, ⟨5, _⟩ => ⟨S32, .i32⟩
  | .hbm, ⟨6, _⟩ => ⟨S_, .i32⟩
  | .hbm, ⟨7, _⟩ => ⟨S32, .i32⟩
  | .hbm, ⟨8, _⟩ => ⟨S32, .i32⟩
  | .hbm, ⟨9, _⟩ => ⟨S_, .i32⟩
  | .hbm, ⟨10, _⟩ => ⟨S32, .i32⟩
  | .hbm, ⟨11, _⟩ => ⟨S32, .i32⟩
  | .hbm, ⟨12, _⟩ => ⟨S32, .f32⟩
  | .hbm, ⟨13, _⟩ => ⟨S_, .f32⟩
  | .hbm, ⟨14, _⟩ => ⟨S32, .f32⟩
  | .hbm, ⟨15, _⟩ => ⟨S32, .f32⟩
  | .hbm, ⟨16, _⟩ => ⟨S_, .f32⟩
  | .hbm, ⟨17, _⟩ => ⟨S32, .f32⟩
  | .hbm, ⟨18, _⟩ => ⟨S32, .f32⟩
  | .hbm, ⟨19, _⟩ => ⟨S_, .f32⟩
  | .hbm, ⟨20, _⟩ => ⟨S32, .f32⟩
  | .hbm, ⟨21, _⟩ => ⟨S32, .f32⟩
  | .hbm, ⟨22, _⟩ => ⟨S128, .i32⟩
  | .hbm, ⟨23, _⟩ => ⟨S128x1, .i32⟩
  | .hbm, ⟨24, _⟩ => ⟨S1x32, .f32⟩
  | .hbm, ⟨25, _⟩ => ⟨S128x1, .f32⟩
  | .hbm, ⟨26, _⟩ => ⟨S128x32, .f32⟩
  | .hbm, ⟨27, _⟩ => ⟨S128x32, .f32⟩
  | .hbm, ⟨28, _⟩ => ⟨S128x32, .f32⟩
  | .hbm, ⟨29, _⟩ => ⟨S128x32, .f32⟩
  | .hbm, ⟨30, _⟩ => ⟨S128x32x2, .f32⟩
  | .hbm, ⟨31, _⟩ => ⟨S128x64, .f32⟩
  | .hbm, ⟨32, _⟩ => ⟨S128x32, .f32⟩
  | .hbm, ⟨33, _⟩ => ⟨S128x32x2, .f32⟩
  | .hbm, ⟨34, _⟩ => ⟨S128x64, .f32⟩
  | .hbm, ⟨35, _⟩ => ⟨S2x128x1024, .f32⟩
  | .hbm, ⟨36, _⟩ => ⟨S2x128x1024, .bf16⟩
  | .hbm, ⟨37, _⟩ => ⟨S2x128x16x64, .bf16⟩
  | .hbm, ⟨38, _⟩ => ⟨S2x128x16x32x2, .bf16⟩
  | .hbm, ⟨39, _⟩ => ⟨S2x128x16x32x1, .bf16⟩
  | .hbm, ⟨40, _⟩ => ⟨S2x128x16x32, .bf16⟩
  | .hbm, ⟨41, _⟩ => ⟨S2x128x16x32, .bf16⟩
  | .hbm, ⟨42, _⟩ => ⟨S2x128x16x32x1, .bf16⟩
  | .hbm, ⟨43, _⟩ => ⟨S2x128x16x32, .bf16⟩
  | .hbm, ⟨44, _⟩ => ⟨S2x128x16x32x1, .bf16⟩
  | .hbm, ⟨45, _⟩ => ⟨S2x128x16x32x1, .bf16⟩
  | .hbm, ⟨46, _⟩ => ⟨S2x128x16x32x2, .bf16⟩
  | .hbm, ⟨47, _⟩ => ⟨S2x128x16x64, .bf16⟩
  | .hbm, ⟨48, _⟩ => ⟨S1x128x1x64, .f32⟩
  | .hbm, ⟨49, _⟩ => ⟨S2x128x16x64, .f32⟩
  | .hbm, ⟨50, _⟩ => ⟨S2x128x16x64, .f32⟩
  | .hbm, ⟨51, _⟩ => ⟨S2x128x16x64, .f32⟩
  | .hbm, ⟨52, _⟩ => ⟨S1x128x1x64, .f32⟩
  | .hbm, ⟨53, _⟩ => ⟨S2x128x16x64, .f32⟩
  | .hbm, ⟨54, _⟩ => ⟨S2x128x16x64, .f32⟩
  | .hbm, ⟨55, _⟩ => ⟨S2x128x16x64, .f32⟩
  | .hbm, ⟨56, _⟩ => ⟨S2x128x16x64, .f32⟩
  | .hbm, ⟨57, _⟩ => ⟨S2x128x1024, .f32⟩
  | .hbm, ⟨58, _⟩ => ⟨S2x128x1024, .bf16⟩
  | .hbm, ⟨59, _⟩ => ⟨S2x128x16x64, .bf16⟩
  | .hbm, ⟨60, _⟩ => ⟨S2x128x16x32x2, .bf16⟩
  | .hbm, ⟨61, _⟩ => ⟨S2x128x16x32x1, .bf16⟩
  | .hbm, ⟨62, _⟩ => ⟨S2x128x16x32, .bf16⟩
  | .hbm, ⟨63, _⟩ => ⟨S2x128x16x32, .bf16⟩
  | .hbm, ⟨64, _⟩ => ⟨S2x128x16x32x1, .bf16⟩
  | .hbm, ⟨65, _⟩ => ⟨S2x128x16x32, .bf16⟩
  | .hbm, ⟨66, _⟩ => ⟨S2x128x16x32x1, .bf16⟩
  | .hbm, ⟨67, _⟩ => ⟨S2x128x16x32x1, .bf16⟩
  | .hbm, ⟨68, _⟩ => ⟨S2x128x16x32x2, .bf16⟩
  | .hbm, ⟨69, _⟩ => ⟨S2x128x16x64, .bf16⟩
  | .hbm, ⟨70, _⟩ => ⟨S1x128x1x64, .f32⟩
  | .hbm, ⟨71, _⟩ => ⟨S2x128x16x64, .f32⟩
  | .hbm, ⟨72, _⟩ => ⟨S2x128x16x64, .f32⟩
  | .hbm, ⟨73, _⟩ => ⟨S2x128x16x64, .f32⟩
  | .hbm, ⟨74, _⟩ => ⟨S1x128x1x64, .f32⟩
  | .hbm, ⟨75, _⟩ => ⟨S2x128x16x64, .f32⟩
  | .hbm, ⟨76, _⟩ => ⟨S2x128x16x64, .f32⟩
  | .hbm, ⟨77, _⟩ => ⟨S2x128x16x64, .f32⟩
  | .hbm, ⟨78, _⟩ => ⟨S2x128x16x64, .f32⟩
  | .hbm, ⟨79, _⟩ => ⟨S2x128x1024, .f32⟩
  | .hbm, ⟨80, _⟩ => ⟨S2x128x1024, .bf16⟩
  | .hbm, ⟨81, _⟩ => ⟨S2x128x16x64, .bf16⟩
  | .hbm, ⟨82, _⟩ => ⟨S2x16x128x128, .f32⟩
  | .hbm, ⟨83, _⟩ => ⟨S_, .f32⟩
  | .hbm, ⟨84, _⟩ => ⟨S2x16x128x128, .f32⟩
  | .hbm, ⟨85, _⟩ => ⟨S2x16x128x128, .f32⟩
  | .hbm, ⟨86, _⟩ => ⟨S_, .f32⟩
  | .hbm, ⟨87, _⟩ => ⟨S2x16x128, .f32⟩
  | .hbm, ⟨88, _⟩ => ⟨S2x16x128x1, .f32⟩
  | .hbm, ⟨89, _⟩ => ⟨S2x16x128x128, .f32⟩
  | .hbm, ⟨90, _⟩ => ⟨S2x16x128x128, .f32⟩
  | .hbm, ⟨91, _⟩ => ⟨S2x16x128x128, .f32⟩
  | .hbm, ⟨92, _⟩ => ⟨S_, .f32⟩
  | .hbm, ⟨93, _⟩ => ⟨S2x16x128, .f32⟩
  | .hbm, ⟨94, _⟩ => ⟨S2x16x128x1, .f32⟩
  | .hbm, ⟨95, _⟩ => ⟨S2x16x128x128, .f32⟩
  | .hbm, ⟨96, _⟩ => ⟨S2x16x128x128, .f32⟩
  | .hbm, ⟨97, _⟩ => ⟨S2x16x64x128, .f32⟩
  | .hbm, ⟨98, _⟩ => ⟨S2x128x16x64, .f32⟩
  | .hbm, ⟨99, _⟩ => ⟨S2x128x1024, .f32⟩
  | .hbm, ⟨100, _⟩ => ⟨S2x128x512, .f32⟩
  | _, _ => ⟨S2x128x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_c : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_cst : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_cst_2 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩
abbrev main_v59 : Ref sig .tc := ⟨.hbm, 69, rfl⟩
abbrev main_v60 : Ref sig .tc := ⟨.hbm, 70, rfl⟩
abbrev main_v61 : Ref sig .tc := ⟨.hbm, 71, rfl⟩
abbrev main_v62 : Ref sig .tc := ⟨.hbm, 72, rfl⟩
abbrev main_v63 : Ref sig .tc := ⟨.hbm, 73, rfl⟩
abbrev main_v64 : Ref sig .tc := ⟨.hbm, 74, rfl⟩
abbrev main_v65 : Ref sig .tc := ⟨.hbm, 75, rfl⟩
abbrev main_v66 : Ref sig .tc := ⟨.hbm, 76, rfl⟩
abbrev main_v67 : Ref sig .tc := ⟨.hbm, 77, rfl⟩
abbrev main_v68 : Ref sig .tc := ⟨.hbm, 78, rfl⟩
abbrev main_v69 : Ref sig .tc := ⟨.hbm, 79, rfl⟩
abbrev main_v70 : Ref sig .tc := ⟨.hbm, 80, rfl⟩
abbrev main_v71 : Ref sig .tc := ⟨.hbm, 81, rfl⟩
abbrev main_v72 : Ref sig .tc := ⟨.hbm, 82, rfl⟩
abbrev main_cst_3 : Ref sig .tc := ⟨.hbm, 83, rfl⟩
abbrev main_v73 : Ref sig .tc := ⟨.hbm, 84, rfl⟩
abbrev main_v74 : Ref sig .tc := ⟨.hbm, 85, rfl⟩
abbrev main_cst_4 : Ref sig .tc := ⟨.hbm, 86, rfl⟩
abbrev main_v75 : Ref sig .tc := ⟨.hbm, 87, rfl⟩
abbrev main_v76 : Ref sig .tc := ⟨.hbm, 88, rfl⟩
abbrev main_v77 : Ref sig .tc := ⟨.hbm, 89, rfl⟩
abbrev main_v78 : Ref sig .tc := ⟨.hbm, 90, rfl⟩
abbrev main_v79 : Ref sig .tc := ⟨.hbm, 91, rfl⟩
abbrev main_cst_5 : Ref sig .tc := ⟨.hbm, 92, rfl⟩
abbrev main_v80 : Ref sig .tc := ⟨.hbm, 93, rfl⟩
abbrev main_v81 : Ref sig .tc := ⟨.hbm, 94, rfl⟩
abbrev main_v82 : Ref sig .tc := ⟨.hbm, 95, rfl⟩
abbrev main_v83 : Ref sig .tc := ⟨.hbm, 96, rfl⟩
abbrev main_v84 : Ref sig .tc := ⟨.hbm, 97, rfl⟩
abbrev main_v85 : Ref sig .tc := ⟨.hbm, 98, rfl⟩
abbrev main_v86 : Ref sig .tc := ⟨.hbm, 99, rfl⟩
abbrev main_v87 : Ref sig .tc := ⟨.hbm, 100, rfl⟩

abbrev nD : Nat := 1
abbrev τ : Topo := Topo.v7x

variable {F : FTy → Type} [FloatOps F]
-- ==== Proof.KernelIdeal.Contents.lean ====
/-
  What the buffers of the kernel hold, written as closed functions of its operands: the two rotated projections, the eight attention
  blocks, the partial products one device makes for all four, the summed quarter each device owns, and the result put together from the
  four quarters. Nothing here mentions the run; the run is shown to leave exactly these.
-/
module

public import proofs.«01_k».proof.Proof.Gen.KernelIdeal.Skeleton
public import Idealize.ShloMosaic.Lib.ValueLayout

@[expose] public section

noncomputable section

namespace Cert.KernelIdeal.Own

open Idealize.ShloMosaic Idealize.ShloMosaic.TcCoe
open Idealize.ShloMosaic.ValueIdx
open Cert.KernelIdeal.Gen

variable {F : FTy → Type} [FloatOps F]

/-- The device `k` places after `c` around the ring of four. -/
def pe (c : Dev nD) (k : Fin 4) : Dev nD := ⟨(c.val + k.val) % 4, Nat.mod_lt _ (by decide)⟩

/-- The eight operands of the kernel on one device. -/
structure Ops (F : FTy → Type) where
  x : Vec F S256x512 .bf16
  wq : Vec F S512x256 .bf16
  wk : Vec F S512x256 .bf16
  wv : Vec F S512x256 .bf16
  wo : Vec F S256x512 .bf16
  cs : Vec F S256x256 .f32
  sn : Vec F S256x256 .f32
  sw : Vec F S256x256 .bf16

/-- The queries, rotated. -/
def qRot (o : Ops F) : FVec F S256x256 .bf16 := k0_pay8 (k0_pay5 o.x o.wq o.sw) (k0_pay6 o.x o.wq o.cs) (k0_pay7 o.sn)
/-- The keys, rotated. -/
def kRot (o : Ops F) : FVec F S256x256 .bf16 := k0_pay9 (k0_pay3 o.x o.wk) o.sw o.cs o.sn
/-- The values. -/
def vPro (o : Ops F) : FVec F S256x256 .bf16 := k0_pay10 (k0_pay4 o.x o.wv)

/-- One attention block: scores, their row softmax, the weighted sum of the values. -/
def attn (q k v : FVec F S128x64 .bf16) : FVec F S128x64 .bf16 :=
  k0_pay14 v (mulf (matmul dot_S128x64_S128x64_S128x128_1_1_0_0_n_n none q k (constant S128x128 .f32 0x00000000#32))
    (broadcast S128x128 (Scalar.ofBits .f32 0x3E000000#32)))

theorem slices_blk (b : Fin 2) (h : Fin 4) : S256x256.Slices ![128 * b.val, 64 * h.val] S128x64 := by
  revert b h; decide

/-- Batch `b`, head `h` of a projection. -/
def blk (y : FVec F S256x256 .bf16) (b : Fin 2) (h : Fin 4) : FVec F S128x64 .bf16 :=
  extractStridedSlice S128x64 ![128 * b.val, 64 * h.val] y (slices_blk b h)

/-- The attention of batch `b`, head `h`. -/
def headOut (o : Ops F) (b : Fin 2) (h : Fin 4) : FVec F S128x64 .bf16 :=
  attn (blk (qRot o) b h) (blk (kRot o) b h) (blk (vPro o) b h)

/-- The attention of this device's four heads, put side by side. -/
def ctxV (o : Ops F) : Vec F S256x256 .bf16 := fun i =>
  headOut o ⟨(i 0).val / 128, by have h : (i 0).val < 256 := (i 0).isLt; omega⟩ ⟨(i 1).val / 64, by have h : (i 1).val < 256 := (i 1).isLt; omega⟩
    (ix2 (n0 := 128) (n1 := 64) ⟨(i 0).val % 128, Nat.mod_lt _ (by decide)⟩ ⟨(i 1).val % 64, Nat.mod_lt _ (by decide)⟩)

/-- This device's share of the output product, by quarters of its rows. -/
def partV (o : Ops F) : Vec F S4x64x512 .bf16 := fun i =>
  k0_pay29 (ctxV o) o.wo (ix2 (n0 := 256) (n1 := 512)
    ⟨64 * (i 0).val + (i 1).val, by have h : (i 0).val < 4 := (i 0).isLt; have h' : (i 1).val < 64 := (i 1).isLt; omega⟩ (i 2))

/-- Slot `j` of a four-slot buffer, as a load of it reads. -/
def slotVec (g : Vec F S4x64x512 .bf16) (j : Fin 4) : Vec F S1x64x512 .bf16 := fun x => g (ix3 (n0 := 4) (n1 := 64) (n2 := 512) j (x 1) (x 2))

/-- What the reduce buffer of device `c` holds once every peer's quarter has come: slot `j` is device `j`'s partial product of the rows `c` owns. -/
def recvV (pb : Dev nD → Vec F S4x64x512 .bf16) (c : Dev nD) : Vec F S4x64x512 .bf16 := fun i => pb (i 0) (ix3 (n0 := 4) (n1 := 64) (n2 := 512) c (i 1) (i 2))

/-- The quarter device `c` sums: its own partial product and the three that came. -/
def sumV (pb : Dev nD → Vec F S4x64x512 .bf16) (c : Dev nD) : FVec F S1x64x512 .bf16 :=
  k0_pay35 (k0_pay34 (slotVec (pb c) c) (slotVec (recvV pb c) (pe c 1))) (slotVec (recvV pb c) (pe c 2)) (slotVec (recvV pb c) (pe c 3))

/-- The gather buffer, once the quarters have gone round: the same on every device. -/
def gathV (pb : Dev nD → Vec F S4x64x512 .bf16) : Vec F S4x64x512 .bf16 := fun i => sumV pb (i 0) (ix3 (n0 := 1) (n1 := 64) (n2 := 512) 0 (i 1) (i 2))

/-- The result. -/
def outV (ag : Vec F S4x64x512 .bf16) : Vec F S256x512 .f32 := fun i =>
  k0_pay36 (slotVec ag ⟨(i 0).val / 64, by have h : (i 0).val < 256 := (i 0).isLt; omega⟩)
    (ix2 (n0 := 64) (n1 := 512) ⟨(i 0).val % 64, Nat.mod_lt _ (by decide)⟩ (i 1))

/-! The blocks as the run computes them, step by step, are these. -/

section Blocks
variable (o : Ops F)

theorem head00 : k0_pay11 (k0_pay3 o.x o.wk) (k0_pay4 o.x o.wv) (k0_pay5 o.x o.wq o.sw) (k0_pay6 o.x o.wq o.cs) (k0_pay7 o.sn) o.sw o.cs o.sn = headOut o 0 0 := rfl
theorem head01 : k0_pay14 (k0_pay12 (k0_pay4 o.x o.wv)) (k0_pay13 (k0_pay3 o.x o.wk) (k0_pay5 o.x o.wq o.sw) (k0_pay6 o.x o.wq o.cs) (k0_pay7 o.sn) o.sw o.cs o.sn) = headOut o 0 1 := rfl
theorem head02 : k0_pay15 (qRot o) (kRot o) (vPro o) = headOut o 0 2 := rfl
theorem head03 : k0_pay19 (k0_pay16 (vPro o)) (k0_pay17 (qRot o) (kRot o)) (k0_pay18 (qRot o) (kRot o)) = headOut o 0 3 := rfl
theorem head10 : k0_pay20 (qRot o) (kRot o) (vPro o) = headOut o 1 0 := rfl
theorem head11 : k0_pay24 (k0_pay21 (vPro o)) (k0_pay22 (qRot o) (kRot o)) (k0_pay23 (qRot o) (kRot o)) = headOut o 1 1 := rfl
theorem head12 : k0_pay25 (qRot o) (kRot o) (vPro o) = headOut o 1 2 := rfl
theorem head13 : k0_pay28 (k0_pay26 (vPro o)) (k0_pay27 (qRot o) (kRot o)) = headOut o 1 3 := rfl

end Blocks

end Cert.KernelIdeal.Own
-- ==== Proof.KernelIdeal.Cells.lean ====
/-
  The meeting of the four devices: which counters each device raises on which other, what each raise hands over, and how much of it is
  owed from the start. Three exchanges: every device tells every other that it has entered (and lends it two landing slots), every device
  sends every other that one's quarter of its partial product, and every device sends every other the quarter it summed.
-/
module

public import proofs.«01_k».proof.Proof.KernelIdeal.Contents
public import proofs.«01_k».proof.Proof.Gen.KernelIdeal.Frame
public import Idealize.ShloMosaic.Lib.Pipeline.Regions
public import Idealize.ShloMosaic.Lib.Pipeline.Kit
public import Idealize.ShloMosaic.Lib.Rounds
public import Idealize.ShloMosaic.Lib.StableHlo
public import Idealize.ShloMosaic.Lib.Tactic
public import Idealize.ShloMosaic.Lib.Pipeline.RegionTalk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

/-! ## The ring of four -/

theorem pe_zero (c : Dev nD) : pe c 0 = c := by revert c; decide
theorem pe_ne (c : Dev nD) (k : Fin 4) (hk : k ≠ 0) : pe c k ≠ c := by revert c k; decide
theorem pe_back (c : Dev nD) (k : Fin 4) : pe (pe c k) (0 - k) = c := by revert c k; decide

/-- The three peers of a device, listed; -/
theorem peers_list (c : Dev nD) : (Finset.univ.filter fun d : Dev nD => d ≠ c) = [pe c 1, pe c 2, pe c 3].toFinset := by revert c; decide
theorem peers_nodup (c : Dev nD) : [pe c 1, pe c 2, pe c 3].Nodup := by revert c; decide
/-- all four devices, listed from one of them. -/
theorem ring_list (c : Dev nD) : (Finset.univ : Finset (Fin 4)) = [c, pe c 1, pe c 2, pe c 3].toFinset := by revert c; decide
theorem ring_nodup (c : Dev nD) : [c, pe c 1, pe c 2, pe c 3].Nodup := by revert c; decide

theorem bigSep_peers {M : Type} [URA M] (c : Dev nD) (Φ : Fin 4 → sProp M) :
    bigSep (Finset.univ.filter fun d : Fin 4 => d ≠ c) Φ = iprop(Φ (pe c 1) ∗ Φ (pe c 2) ∗ Φ (pe c 3)) :=
  bigSep_eq_bigSepL_of_eq _ (peers_list c) (peers_nodup c) Φ
theorem bigSep_ring {M : Type} [URA M] (c : Dev nD) (Φ : Fin 4 → sProp M) :
    bigSep Finset.univ Φ = iprop(Φ c ∗ Φ (pe c 1) ∗ Φ (pe c 2) ∗ Φ (pe c 3)) :=
  bigSep_eq_bigSepL_of_eq _ (ring_list c) (ring_nodup c) Φ

/-! ## The printed offsets and device numbers -/

theorem dev1_eq (c : Dev nD) (h) : (⟨k0_dev1 c, h⟩ : Dev nD) = pe c 1 := by
  apply Fin.ext; show k0_dev1 c = (pe c 1).val; revert c; decide +kernel
theorem dev2_eq (c : Dev nD) (h) : (⟨k0_dev2 c, h⟩ : Dev nD) = pe c 2 := by
  apply Fin.ext; show k0_dev2 c = (pe c 2).val; revert c; decide +kernel
theorem dev3_eq (c : Dev nD) (h) : (⟨k0_dev3 c, h⟩ : Dev nD) = pe c 3 := by
  apply Fin.ext; show k0_dev3 c = (pe c 3).val; revert c; decide +kernel
theorem dev4_eq (c : Dev nD) (h) : (⟨k0_dev4 c, h⟩ : Dev nD) = pe c 1 := by
  apply Fin.ext; show k0_dev4 c = (pe c 1).val; revert c; decide +kernel
theorem dev5_eq (c : Dev nD) (h) : (⟨k0_dev5 c, h⟩ : Dev nD) = pe c 2 := by
  apply Fin.ext; show k0_dev5 c = (pe c 2).val; revert c; decide +kernel
theorem dev6_eq (c : Dev nD) (h) : (⟨k0_dev6 c, h⟩ : Dev nD) = pe c 3 := by
  apply Fin.ext; show k0_dev6 c = (pe c 3).val; revert c; decide +kernel
theorem dev7_eq (c : Dev nD) (h) : (⟨k0_dev7 c, h⟩ : Dev nD) = pe c 1 := by
  apply Fin.ext; show k0_dev7 c = (pe c 1).val; revert c; decide +kernel
theorem dev8_eq (c : Dev nD) (h) : (⟨k0_dev8 c, h⟩ : Dev nD) = pe c 2 := by
  apply Fin.ext; show k0_dev8 c = (pe c 2).val; revert c; decide +kernel
theorem dev9_eq (c : Dev nD) (h) : (⟨k0_dev9 c, h⟩ : Dev nD) = pe c 3 := by
  apply Fin.ext; show k0_dev9 c = (pe c 3).val; revert c; decide +kernel

theorem off3_1 (c : Dev nD) : k0_off3 c 1#32 = ![(pe c 1).val, 0, 0] := by revert c; decide +kernel
theorem off3_2 (c : Dev nD) : k0_off3 c 2#32 = ![(pe c 2).val, 0, 0] := by revert c; decide +kernel
theorem off3_3 (c : Dev nD) : k0_off3 c 3#32 = ![(pe c 3).val, 0, 0] := by revert c; decide +kernel
theorem off4_1 (c : Dev nD) : k0_off4 c 1#32 = ![(pe c 1).val] := by revert c; decide +kernel
theorem off4_2 (c : Dev nD) : k0_off4 c 2#32 = ![(pe c 2).val] := by revert c; decide +kernel
theorem off4_3 (c : Dev nD) : k0_off4 c 3#32 = ![(pe c 3).val] := by revert c; decide +kernel
theorem off6_1 (c : Dev nD) : k0_off6 c 1#32 = ![(pe c 1).val, 0, 0] := by revert c; decide +kernel
theorem off6_2 (c : Dev nD) : k0_off6 c 2#32 = ![(pe c 2).val, 0, 0] := by revert c; decide +kernel
theorem off6_3 (c : Dev nD) : k0_off6 c 3#32 = ![(pe c 3).val, 0, 0] := by revert c; decide +kernel

/-! ## Slots -/

theorem slot_inb (j : Fin 4) : ∀ a, (![j.val, 0, 0] : Fin 3 → ℕ) a + S1x64x512.size a ≤ S4x64x512.size a := by revert j; decide

/-- The rectangle of slot `j`. -/
abbrev slotR (j : Fin 4) : Rect S4x64x512 := Rect.unit (s := S4x64x512) ![j.val, 0, 0] S1x64x512.size (slot_inb j)
/-- Slot `j` of a four-slot buffer, as a transfer names it. -/
abbrev slotM (M : Memref sig .tc .vmem S4x64x512 .bf16) (j : Fin 4) : Memref sig .tc .vmem S64x512 .bf16 :=
  (M.slice (slotR j) (fun _ => rfl)).squeeze S64x512 squeezes_S1x64x512_S64x512

theorem slot_of_off {off : Fin 3 → ℕ} {j : Fin 4} (h : off = ![j.val, 0, 0]) (M : Memref sig .tc .vmem S4x64x512 .bf16)
    (inb : ∀ a, off a + S1x64x512.size a ≤ S4x64x512.size a) (hr : ∀ a, (Rect.unit (s := S4x64x512) off S1x64x512.size inb).stride a = 1) :
    (M.slice (Rect.unit (s := S4x64x512) off S1x64x512.size inb) hr).squeeze S64x512 squeezes_S1x64x512_S64x512 = slotM M j := by
  subst h; rfl

theorem rect_of_off {off : Fin 3 → ℕ} {j : Fin 4} (h : off = ![j.val, 0, 0])
    (inb : ∀ a, off a + S1x64x512.size a ≤ S4x64x512.size a) : Rect.unit (s := S4x64x512) off S1x64x512.size inb = slotR j := by
  subst h; rfl

/-- The places of slot `j`. -/
def slotSet (j : Fin 4) : Finset S4x64x512.Idx := (slotR j).set

theorem mem_slotSet (j : Fin 4) (i : S4x64x512.Idx) : i ∈ slotSet j ↔ i 0 = j := by
  unfold slotSet
  rw [Rect.mem_set_unit]
  constructor
  · intro h
    apply Fin.ext
    have h0 : j.val ≤ (i 0).val ∧ (i 0).val < j.val + 1 := h 0
    omega
  · rintro rfl a
    have h1 : (i 1).val < 64 := (i 1).isLt
    have h2 : (i 2).val < 512 := (i 2).isLt
    fin_cases a
    · show (i 0).val ≤ (i 0).val ∧ (i 0).val < (i 0).val + 1; omega
    · show 0 ≤ (i 1).val ∧ (i 1).val < 0 + 64; omega
    · show 0 ≤ (i 2).val ∧ (i 2).val < 0 + 512; omega

theorem slotSet_disjoint (j j' : Fin 4) (h : j ≠ j') : Disjoint (slotSet j) (slotSet j') :=
  Finset.disjoint_left.mpr fun i hi hi' => h (((mem_slotSet j i).mp hi).symm.trans ((mem_slotSet j' i).mp hi'))

theorem slotSet_cover : Finset.univ.biUnion slotSet = (Finset.univ : Finset S4x64x512.Idx) := by
  apply Finset.eq_univ_of_forall
  intro i
  exact Finset.mem_biUnion.mpr ⟨i 0, Finset.mem_univ _, (mem_slotSet _ i).mpr rfl⟩

abbrev pM : Memref sig .tc .vmem S4x64x512 .bf16 := Memref.whole cc0_scratch1
abbrev rM : Memref sig .tc .vmem S4x64x512 .bf16 := Memref.whole cc0_scratch2
abbrev gM : Memref sig .tc .vmem S4x64x512 .bf16 := Memref.whole cc0_scratch3

theorem set_p (j : Fin 4) : (slotM pM j).view.set = slotSet j := (View.set_reshape _ _).trans (View.set_slice_whole _ _)
theorem set_r (j : Fin 4) : (slotM rM j).view.set = slotSet j := (View.set_reshape _ _).trans (View.set_slice_whole _ _)
theorem set_g (j : Fin 4) : (slotM gM j).view.set = slotSet j := (View.set_reshape _ _).trans (View.set_slice_whole _ _)

/-- Where a slot's rectangle places an index, -/
theorem slotR_emb (j : Fin 4) (x : S1x64x512.Idx) : (slotR j).emb x = ix3 (n0 := 4) (n1 := 64) (n2 := 512) j (x 1) (x 2) :=
  Rect.emb_eq_of_coords _ _ _ fun a => by
    have h0 : (x 0).val = 0 := by have h : (x 0).val < 1 := (x 0).isLt; omega
    fin_cases a
    · show j.val = j.val + 1 * (x 0).val; omega
    · show (x 1).val = 0 + 1 * (x 1).val; omega
    · show (x 2).val = 0 + 1 * (x 2).val; omega

/-- and where its view does. -/
theorem slotM_emb (M : Memref sig .tc .vmem S4x64x512 .bf16) (j : Fin 4) (x : S64x512.Idx) :
    (slotM M j).view.emb x = M.view.emb (ix3 (n0 := 4) (n1 := 64) (n2 := 512) j (x 0) (x 1)) := by
  have e : Shape.reshapeEquiv (s := S1x64x512) (s' := S64x512) squeezes_S1x64x512_S64x512.numel_eq x
      = ix3 (n0 := 1) (n1 := 64) (n2 := 512) ⟨0, Nat.one_pos⟩ (x 0) (x 1) := by
    conv_lhs => rw [eq_ix2 (n0 := 64) (n1 := 512) x]
    exact reshapeEquiv_ix2_1ab _ _ _
  show M.view.emb ((slotR j).emb (Shape.reshapeEquiv (s := S1x64x512) (s' := S64x512) squeezes_S1x64x512_S64x512.numel_eq x)) = _
  rw [e, slotR_emb]

/-- What a transfer of slot `js` leaves in slot `jd`: from the partial products into the reduce buffer, -/
theorem landed_r (js jd : Fin 4) (fd fs : Vec F S4x64x512 .bf16) (i : S4x64x512.Idx) (hi : i ∈ slotSet jd) :
    (slotM rM jd).view.write (Elt F) fd ((slotM pM js).view.read (Elt F) fs) Finset.univ i = fs (ix3 (n0 := 4) (n1 := 64) (n2 := 512) js (i 1) (i 2)) := by
  have e : (slotM rM jd).view.emb (ix2 (n0 := 64) (n1 := 512) (i 1) (i 2)) = i := by
    rw [slotM_emb]
    show ix3 (n0 := 4) (n1 := 64) (n2 := 512) jd (i 1) (i 2) = i
    rw [← (mem_slotSet jd i).mp hi]; exact (eq_ix3 (n0 := 4) (n1 := 64) (n2 := 512) i).symm
  conv_lhs => rw [← e]
  rw [View.write_emb_of_mem _ _ (Finset.mem_univ _)]
  show fs ((slotM pM js).view.emb (ix2 (n0 := 64) (n1 := 512) (i 1) (i 2))) = _
  rw [slotM_emb]; rfl

/-- and within the gather buffers. -/
theorem landed_g (js jd : Fin 4) (fd fs : Vec F S4x64x512 .bf16) (i : S4x64x512.Idx) (hi : i ∈ slotSet jd) :
    (slotM gM jd).view.write (Elt F) fd ((slotM gM js).view.read (Elt F) fs) Finset.univ i = fs (ix3 (n0 := 4) (n1 := 64) (n2 := 512) js (i 1) (i 2)) := by
  have e : (slotM gM jd).view.emb (ix2 (n0 := 64) (n1 := 512) (i 1) (i 2)) = i := by
    rw [slotM_emb]
    show ix3 (n0 := 4) (n1 := 64) (n2 := 512) jd (i 1) (i 2) = i
    rw [← (mem_slotSet jd i).mp hi]; exact (eq_ix3 (n0 := 4) (n1 := 64) (n2 := 512) i).symm
  conv_lhs => rw [← e]
  rw [View.write_emb_of_mem _ _ (Finset.mem_univ _)]
  show fs ((slotM gM js).view.emb (ix2 (n0 := 64) (n1 := 512) (i 1) (i 2))) = _
  rw [slotM_emb]; rfl

theorem read_p (j : Fin 4) (f : Vec F S4x64x512 .bf16) : (pM.access (slotR j)).read (Elt F) f = slotVec f j := by
  funext x; show f ((slotR j).emb x) = _; rw [slotR_emb]; rfl
theorem read_r (j : Fin 4) (f : Vec F S4x64x512 .bf16) : (rM.access (slotR j)).read (Elt F) f = slotVec f j := by
  funext x; show f ((slotR j).emb x) = _; rw [slotR_emb]; rfl
theorem read_g (j : Fin 4) (f : Vec F S4x64x512 .bf16) : (gM.access (slotR j)).read (Elt F) f = slotVec f j := by
  funext x; show f ((slotR j).emb x) = _; rw [slotR_emb]; rfl

/-! ## Counters -/

/-- The counter of entries, one on every device. -/
abbrev barS : Sem sig := ⟨0, by decide⟩
theorem barS_eq : (SemArray.scalar (sig.barrier 0 rfl) : Sems sig S_).sem = barS := rfl
/-- The counters of the quarters sent (one per peer), -/
abbrev rsS (i : Fin 3) : DmaSem sig := ⟨9 + i.val, by have := i.isLt; show 9 + i.val < 23; omega⟩
/-- of the quarters come (one per device), -/
abbrev rsR (j : Fin 4) : DmaSem sig := ⟨12 + j.val, by have := j.isLt; show 12 + j.val < 23; omega⟩
/-- of the sums sent, -/
abbrev agS (i : Fin 3) : DmaSem sig := ⟨16 + i.val, by have := i.isLt; show 16 + i.val < 23; omega⟩
/-- of the sums come. -/
abbrev agR (j : Fin 4) : DmaSem sig := ⟨19 + j.val, by have := j.isLt; show 19 + j.val < 23; omega⟩

theorem rsR_of_off {off : Fin 1 → ℕ} {j : Fin 4} (h : off = ![j.val]) (inb : ∀ a, off a + S1.size a ≤ S4.size a) :
    ((cc0_scratch5.slice (Rect.unit (s := S4) off S1.size inb)).squeeze S_ squeezes_S1_S_).sem = rsR j := by
  subst h; revert inb; revert j; decide
theorem agR_of_off {off : Fin 1 → ℕ} {j : Fin 4} (h : off = ![j.val]) (inb : ∀ a, off a + S1.size a ≤ S4.size a) :
    ((cc0_scratch7.slice (Rect.unit (s := S4) off S1.size inb)).squeeze S_ squeezes_S1_S_).sem = agR j := by
  subst h; revert inb; revert j; decide
theorem rsS_of_off {off : Fin 1 → ℕ} {i : Fin 3} (h : off = ![i.val]) (inb : ∀ a, off a + S1.size a ≤ S3.size a) :
    ((cc0_scratch4.slice (Rect.unit (s := S3) off S1.size inb)).squeeze S_ squeezes_S1_S_).sem = rsS i := by
  subst h; revert inb; revert i; decide
theorem agS_of_off {off : Fin 1 → ℕ} {i : Fin 3} (h : off = ![i.val]) (inb : ∀ a, off a + S1.size a ≤ S3.size a) :
    ((cc0_scratch6.slice (Rect.unit (s := S3) off S1.size inb)).squeeze S_ squeezes_S1_S_).sem = agS i := by
  subst h; revert inb; revert i; decide

abbrev barCell (c : Dev nD) : GSem nD τ sig := ((c : Thread nD τ), .reg barS)
abbrev dmaCell (c : Dev nD) (s : DmaSem sig) : GSem nD τ sig := ((c : Thread nD τ), .dma s)

/-- What one transfer of a slot raises a counter by. -/
abbrev N : ℕ := (slotM rM 0).view.dmaCredit
theorem N_pos : 0 < N := View.dmaCredit_pos _ (by decide)
theorem credit_r (j : Fin 4) : (slotM rM j).view.dmaCredit = N := rfl
theorem credit_g (j : Fin 4) : (slotM gM j).view.dmaCredit = N := rfl
theorem credit_p (j : Fin 4) : (slotM pM j).view.dmaCredit = N := rfl

end Cert.KernelIdeal.Own
-- ==== Proof.KernelIdeal.Talk.lean ====
/-
  The schedule of the exchanges, told counter by counter: who raises it, by how much, and what the raise hands over; and the order in
  which the counters may be waited on.
-/
module

public import proofs.«01_k».proof.Proof.KernelIdeal.Cells

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

/-- The bookkeeping of two families of counters: the operands' copies in and out, and the exchanges. -/
abbrev UU : Type := UR sig nD τ × URounds (GSem nD τ sig) (Fin 4)

local notation "𝕄" => MT nD τ sig Unit (Elt F) ℕ UU ℕ

abbrev EP : Emb (UR sig nD τ) (MT nD τ sig Unit (Elt F) ℕ UU ℕ) := embL
abbrev ER : Emb (URounds (GSem nD τ sig) (Fin 4)) (MT nD τ sig Unit (Elt F) ℕ UU ℕ) := embR

/-! ## What the raises hand over -/

/-- Slot `j` of the partial products on `c`, held at `q`. -/
def pSlot (c : Dev nD) (j : Fin 4) (q : PosShare TreeShare) (f : Vec F S4x64x512 .bf16) : sProp 𝕄 :=
  (slotM pM j).view.loc (c : Thread nD τ) ↦[(slotM pM j).view.set]{q} f
/-- Slot `j` of the reduce buffer on `c`. -/
def rSlot (c : Dev nD) (j : Fin 4) (q : PosShare TreeShare) (f : Vec F S4x64x512 .bf16) : sProp 𝕄 :=
  (slotM rM j).view.loc (c : Thread nD τ) ↦[(slotM rM j).view.set]{q} f
/-- Slot `j` of the gather buffer on `c`. -/
def gSlot (c : Dev nD) (j : Fin 4) (q : PosShare TreeShare) (f : Vec F S4x64x512 .bf16) : sProp 𝕄 :=
  (slotM gM j).view.loc (c : Thread nD τ) ↦[(slotM gM j).view.set]{q} f

/-- What device `d` hands device `c` on entering: its own two slots for `c`'s transfers, and that its counters of arrival from `c` are open. -/
def barPay (c d : Dev nD) : sProp 𝕄 :=
  iprop((∃ f, rSlot d c fullShare f) ∗ (∃ f, gSlot d c fullShare f)
    ∗ reached ER (dmaCell d (rsR c)) 0 ∗ reached ER (dmaCell d (agR c)) 0)

/-- The shares of the own sum: one kept to read it, one lent to each of three transfers. -/
def agShare (i : Fin 3) : PosShare TreeShare :=
  match i with
  | 0 => fullShare.right.left
  | 1 => fullShare.right.right.left
  | 2 => fullShare.right.right.right

variable (pb : Dev nD → Vec F S4x64x512 .bf16)

/-- What a raise of the transfer counter `s` of device `c` hands over. -/
def dmaPay (c : Dev nD) (s : ℕ) : sProp 𝕄 :=
  if s < 12 then pSlot c (pe c (Fin.ofNat 4 (s - 9 + 1))) fullShare (pb c)
  else if s < 16 then rSlot c (Fin.ofNat 4 (s - 12)) fullShare (recvV pb c)
  else if s < 19 then gSlot c c (agShare (Fin.ofNat 3 (s - 16))) (gathV pb)
  else gSlot c (Fin.ofNat 4 (s - 19)) fullShare (gathV pb)

/-- Who raises the transfer counter `s` of device `c`: nobody for the copies in and out and for the arrivals from itself. -/
def dmaDuty (c : Dev nD) (s : ℕ) : Finset (Fin 4) :=
  if s < 9 then ∅ else if s = 12 + c.val ∨ s = 19 + c.val then ∅ else {0}

/-- The schedule: one round on every counter. -/
def sched : Rounds.Schedule (GSem nD τ sig) (Fin 4) 𝕄 where
  duties g r := if r = 0 ∧ g.1.2 = .tc then (match g.2 with
    | .reg _ => Finset.univ.filter fun d => d ≠ g.1.1
    | .dma s => dmaDuty g.1.1 s.val) else ∅
  unitless _ := False
  amount g _ _ := match g.2 with | .reg _ => 1 | .dma _ => N
  payload g _ d := match g.2 with | .reg _ => barPay g.1.1 d | .dma s => dmaPay pb g.1.1 s.val
  amount_pos g _ _ _ := by
    cases g.2 with
    | reg _ => exact Nat.one_pos
    | dma _ => exact N_pos

instance sched_storable (g : GSem nD τ sig) (r : ℕ) (d : Fin 4) :
    BI.Storable (upEmb : UEmb _ 𝕄) ((sched (F := F) pb).payload g r d) := by
  show BI.Storable upEmb (match g.2 with | .reg _ => barPay g.1.1 d | .dma s => dmaPay pb g.1.1 s.val)
  cases g.2 with
  | reg _ => unfold barPay rSlot gSlot; infer_instance
  | dma s =>
    show BI.Storable upEmb (dmaPay pb g.1.1 s.val)
    unfold dmaPay pSlot rSlot gSlot
    (repeat' split) <;> infer_instance

/-! ## The schedule, read counter by counter -/

section Sched
variable (c : Dev nD)

theorem duties_bar : (sched pb).duties (barCell c) 0 = Finset.univ.filter fun d => d ≠ c := by
  dsimp only [sched]; exact if_pos ⟨rfl, rfl⟩
theorem duties_dma (s : DmaSem sig) : (sched pb).duties (dmaCell c s) 0 = dmaDuty c s.val := by
  dsimp only [sched]; exact if_pos ⟨rfl, rfl⟩
theorem duties_later (g : GSem nD τ sig) (r : ℕ) (hr : 1 ≤ r) : (sched pb).duties g r = ∅ := by
  dsimp only [sched]; exact if_neg fun h => by omega

theorem duty_rsS (i : Fin 3) : dmaDuty c (rsS i).val = {0} := by revert c i; decide
theorem duty_agS (i : Fin 3) : dmaDuty c (agS i).val = {0} := by revert c i; decide
theorem duty_rsR (j : Fin 4) (h : j ≠ c) : dmaDuty c (rsR j).val = {0} := by revert c j; decide
theorem duty_agR (j : Fin 4) (h : j ≠ c) : dmaDuty c (agR j).val = {0} := by revert c j; decide
theorem duty_rsR_own : dmaDuty c (rsR c).val = ∅ := by revert c; decide
theorem duty_agR_own : dmaDuty c (agR c).val = ∅ := by revert c; decide

theorem amount_bar (d : Fin 4) : (sched pb).amount (barCell c) 0 d = 1 := rfl
theorem amount_dma (s : DmaSem sig) (d : Fin 4) : (sched pb).amount (dmaCell c s) 0 d = N := rfl

theorem expect_bar : (sched pb).expect (barCell c) 0 = 3 := by
  unfold Schedule.expect Schedule.amountOf
  rw [duties_bar, Finset.sum_congr rfl fun d _ => amount_bar pb c d]
  revert c; decide
theorem expect_dma (s : DmaSem sig) (h : dmaDuty c s.val = {0}) : (sched pb).expect (dmaCell c s) 0 = N := by
  unfold Schedule.expect Schedule.amountOf
  rw [duties_dma, h, Finset.sum_singleton, amount_dma]

theorem payload_bar (d : Fin 4) : (sched pb).payload (barCell c) 0 d = barPay c d := rfl
theorem payload_rsS (i : Fin 3) (d : Fin 4) : (sched pb).payload (dmaCell c (rsS i)) 0 d = pSlot c (pe c i.succ) fullShare (pb c) := by
  show dmaPay pb c (9 + i.val) = _
  unfold dmaPay
  rw [if_pos (by omega)]
  congr 2
  revert i; decide
theorem payload_rsR (j : Fin 4) (d : Fin 4) : (sched pb).payload (dmaCell c (rsR j)) 0 d = rSlot c j fullShare (recvV pb c) := by
  show dmaPay pb c (12 + j.val) = _
  unfold dmaPay
  rw [if_neg (by omega), if_pos (by omega)]
  congr 1
  revert j; decide
theorem payload_agS (i : Fin 3) (d : Fin 4) : (sched pb).payload (dmaCell c (agS i)) 0 d = gSlot c c (agShare i) (gathV pb) := by
  show dmaPay pb c (16 + i.val) = _
  unfold dmaPay
  rw [if_neg (by omega), if_neg (by omega), if_pos (by omega)]
  congr 2
  revert i; decide
theorem payload_agR (j : Fin 4) (d : Fin 4) : (sched pb).payload (dmaCell c (agR j)) 0 d = gSlot c j fullShare (gathV pb) := by
  show dmaPay pb c (19 + j.val) = _
  unfold dmaPay
  rw [if_neg (by omega), if_neg (by omega), if_neg (by omega)]
  congr 1
  revert j; decide

theorem rest_bar : bigSep ((sched pb).duties (barCell c) 0 \ ∅) (fun d => (sched pb).payload (barCell c) 0 d)
    = iprop(barPay c (pe c 1) ∗ barPay c (pe c 2) ∗ barPay c (pe c 3)) := by
  rw [Finset.sdiff_empty, duties_bar]
  exact bigSep_peers c (fun d => barPay c d)
theorem rest_dma (s : DmaSem sig) (h : dmaDuty c s.val = {0}) :
    bigSep ((sched pb).duties (dmaCell c s) 0 \ ∅) (fun d => (sched pb).payload (dmaCell c s) 0 d) = (sched pb).payload (dmaCell c s) 0 0 := by
  rw [Finset.sdiff_empty, duties_dma, h, bigSep_singleton]

end Sched

/-! ## What is owed, and the order of the waits -/

def L (g : GSem nD τ sig) : Finset Unit := if g.1.2 = .tc then {()} else ∅
/-- Entries first, then the quarters' arrivals, then the sums' arrivals; nothing is owed on the others. -/
def lv (g : GSem nD τ sig) (_ : Unit) : ℕ := match g.2 with
  | .reg _ => 1
  | .dma s => if s.val < 12 then 0 else if s.val < 16 then 2 else if s.val < 19 then 0 else 3

theorem L_of_ne (g : GSem nD τ sig) (h : g.1.2 ≠ .tc) : L g = ∅ := if_neg h
theorem L_tc (c : Dev nD) (sm : SemLoc sig) : L ((c : Thread nD τ), sm) = {()} := if_pos rfl

abbrev barO (c : Dev nD) (k : Fin 4) : CellTallies nD τ sig Unit := tallyAt (barCell (pe c k)) () 1
abbrev rsO (c : Dev nD) (k : Fin 4) : CellTallies nD τ sig Unit := tallyAt (dmaCell (pe c k) (rsR c)) () N
abbrev agO (c : Dev nD) (k : Fin 4) : CellTallies nD τ sig Unit := tallyAt (dmaCell (pe c k) (agR c)) () N

/-- What device `c` still owes when only the sums are left to send; -/
abbrev owedG (c : Dev nD) : CellTallies nD τ sig Unit := 0 + agO c 3 + agO c 2 + agO c 1
/-- when the quarters are left too; -/
abbrev owedR (c : Dev nD) : CellTallies nD τ sig Unit := owedG c + rsO c 3 + rsO c 2 + rsO c 1
/-- and at the start. -/
abbrev O₀ (c : Dev nD) : CellTallies nD τ sig Unit := owedR c + barO c 3 + barO c 2 + barO c 1

/-- Everything in `O` is owed on counters waited on later than `n`. -/
def Later (n : ℕ) (O : CellTallies nD τ sig Unit) : Prop := ∀ (g : GSem nD τ sig) (u : Unit), 0 < O g u → u ∈ L g ∧ n < lv g u

theorem later_zero (n : ℕ) : Later n 0 := fun _ _ h => absurd h (Nat.lt_irrefl 0)
theorem later_add {n : ℕ} {O O' : CellTallies nD τ sig Unit} (h : Later n O) (h' : Later n O') : Later n (O + O') := by
  intro g u hg
  have e : (O + O') g u = O g u + O' g u := rfl
  rw [e] at hg
  rcases Nat.eq_zero_or_pos (O g u) with h0 | h0
  · exact h' g u (by omega)
  · exact h g u h0
theorem later_at {n k : ℕ} (c : Dev nD) (s : SemLoc sig) (h : n < lv ((c : Thread nD τ), s) ()) : Later n (tallyAt ((c : Thread nD τ), s) () k) := by
  intro g u hg
  rw [tallyAt_apply] at hg
  by_cases e : g = ((c : Thread nD τ), s) ∧ u = ()
  · rw [e.1, L_tc]; exact ⟨Finset.mem_singleton_self _, h⟩
  · rw [if_neg e] at hg; exact absurd hg (Nat.lt_irrefl 0)

theorem lv_rsR (c : Dev nD) (j : Fin 4) : lv (dmaCell c (rsR j)) () = 2 := by revert j; show ∀ j : Fin 4, (if 12 + j.val < 12 then 0 else if 12 + j.val < 16 then 2 else if 12 + j.val < 19 then 0 else 3) = 2; decide
theorem lv_agR (c : Dev nD) (j : Fin 4) : lv (dmaCell c (agR j)) () = 3 := by revert j; show ∀ j : Fin 4, (if 19 + j.val < 12 then 0 else if 19 + j.val < 16 then 2 else if 19 + j.val < 19 then 0 else 3) = 3; decide

theorem later_owedG (n : ℕ) (hn : n < 3) (c : Dev nD) : Later n (owedG c) :=
  later_add (later_add (later_add (later_zero n) (later_at _ _ (by rw [lv_agR]; exact hn))) (later_at _ _ (by rw [lv_agR]; exact hn)))
    (later_at _ _ (by rw [lv_agR]; exact hn))
theorem later_owedR (n : ℕ) (hn : n < 2) (c : Dev nD) : Later n (owedR c) :=
  later_add (later_add (later_add (later_owedG n (by omega) c) (later_at _ _ (by rw [lv_rsR]; exact hn))) (later_at _ _ (by rw [lv_rsR]; exact hn)))
    (later_at _ _ (by rw [lv_rsR]; exact hn))
theorem later_O₀ (c : Dev nD) : Later 0 (O₀ c) :=
  later_add (later_add (later_add (later_owedR 0 (by decide) c) (later_at _ _ (by show 0 < 1; decide))) (later_at _ _ (by show 0 < 1; decide)))
    (later_at _ _ (by show 0 < 1; decide))

/-- A wait on a counter of level `n` is in order while everything owed comes later. -/
theorem mayWait (c : Dev nD) (s : SemLoc sig) (O : CellTallies nD τ sig Unit) (h : Later (lv ((c : Thread nD τ), s) ()) O) :
    (levAts L lv : sProp 𝕄) ⊢ MayWait (c : Thread nD τ) s () O :=
  MayOwe.of_cut (L := L) (lev := lv) (lv ((c : Thread nD τ), s) ())
    (fun p hp => by rw [Finset.mem_singleton.mp hp, L_tc]; exact Finset.mem_singleton_self _)
    (fun g u hg => (h g u hg).1)
    (fun p hp => by rw [Finset.mem_singleton.mp hp])
    (fun g u hg => (h g u hg).2)

/-! ## What a device carries into the exchanges -/

/-- The own transfer counters of the kernel: four families, fourteen in all. -/
abbrev osem (i : Fin 14) : SemLoc sig := .dma ⟨9 + i.val, by have := i.isLt; show 9 + i.val < 23; omega⟩
abbrev scopedCell (x : Dev nD × Fin 14) : GSem nD τ sig := ((x.1 : Thread nD τ), osem x.2)

/-- The records of all counters of all devices, at the names `K`. -/
def invs (K : GSem nD τ sig → ℕ) : sProp 𝕄 :=
  iprop(bigSep Finset.univ (fun c : Dev nD => iprop(cellInv ER (sched pb) (K (barCell c)) (barCell c) ∗ reached ER (barCell c) 0))
    ∗ bigSep Finset.univ (fun x : Dev nD × Fin 14 => cellInv ER (sched pb) (K (scopedCell x)) (scopedCell x)))

instance invs_persistent (K : GSem nD τ sig → ℕ) : BI.Persistent (invs pb K) := by unfold invs; infer_instance

theorem inv_bar (K : GSem nD τ sig → ℕ) (c : Dev nD) :
    invs pb K ⊢ (iprop(cellInv ER (sched pb) (K (barCell c)) (barCell c) ∗ reached ER (barCell c) 0) : sProp 𝕄) := by
  unfold invs
  exact sep_elim_left.trans (bigSep_elim (Finset.mem_univ c))
theorem inv_dma (K : GSem nD τ sig → ℕ) (c : Dev nD) (i : Fin 14) :
    invs pb K ⊢ (cellInv ER (sched pb) (K (scopedCell (c, i))) (scopedCell (c, i)) : sProp 𝕄) := by
  unfold invs
  exact sep_elim_right.trans (bigSep_elim (Finset.mem_univ (c, i)))

theorem inv_rsS (K : GSem nD τ sig → ℕ) (c : Dev nD) (i : Fin 3) :
    invs pb K ⊢ (cellInv ER (sched pb) (K (dmaCell c (rsS i))) (dmaCell c (rsS i)) : sProp 𝕄) := by
  have h := inv_dma pb K c ⟨i.val, by have := i.isLt; omega⟩
  exact h
theorem inv_rsR (K : GSem nD τ sig → ℕ) (c : Dev nD) (j : Fin 4) :
    invs pb K ⊢ (cellInv ER (sched pb) (K (dmaCell c (rsR j))) (dmaCell c (rsR j)) : sProp 𝕄) := by
  have e : scopedCell (c, (⟨3 + j.val, by have := j.isLt; omega⟩ : Fin 14)) = dmaCell c (rsR j) := by revert c j; decide
  have h := inv_dma pb K c ⟨3 + j.val, by have := j.isLt; omega⟩
  rwa [e] at h
theorem inv_agS (K : GSem nD τ sig → ℕ) (c : Dev nD) (i : Fin 3) :
    invs pb K ⊢ (cellInv ER (sched pb) (K (dmaCell c (agS i))) (dmaCell c (agS i)) : sProp 𝕄) := by
  have e : scopedCell (c, (⟨7 + i.val, by have := i.isLt; omega⟩ : Fin 14)) = dmaCell c (agS i) := by revert c i; decide
  have h := inv_dma pb K c ⟨7 + i.val, by have := i.isLt; omega⟩
  rwa [e] at h
theorem inv_agR (K : GSem nD τ sig → ℕ) (c : Dev nD) (j : Fin 4) :
    invs pb K ⊢ (cellInv ER (sched pb) (K (dmaCell c (agR j))) (dmaCell c (agR j)) : sProp 𝕄) := by
  have e : scopedCell (c, (⟨10 + j.val, by have := j.isLt; omega⟩ : Fin 14)) = dmaCell c (agR j) := by revert c j; decide
  have h := inv_dma pb K c ⟨10 + j.val, by have := j.isLt; omega⟩
  rwa [e] at h

/-- The rights with which device `c` pays its peer `k` places on, and the two counters of its own that the two transfers there raise. -/
def toks (c : Dev nD) (k : Fin 3) : sProp 𝕄 :=
  iprop(dutyTok ER (barCell (pe c k.succ)) 0 c ∗ dutyTok ER (dmaCell (pe c k.succ) (rsR c)) 0 0 ∗ dutyTok ER (dmaCell (pe c k.succ) (agR c)) 0 0
    ∗ dutyTok ER (dmaCell c (rsS k)) 0 0 ∗ dutyTok ER (dmaCell c (agS k)) 0 0)

theorem toks_eq (c : Dev nD) (k : Fin 3) {j : Fin 4} (hj : k.succ = j) : (toks c k : sProp 𝕄)
    = iprop(dutyTok ER (barCell (pe c j)) 0 c ∗ dutyTok ER (dmaCell (pe c j) (rsR c)) 0 0 ∗ dutyTok ER (dmaCell (pe c j) (agR c)) 0 0
      ∗ dutyTok ER (dmaCell c (rsS k)) 0 0 ∗ dutyTok ER (dmaCell c (agS k)) 0 0) := by
  subst hj; rfl

/-- What device `c` waits with. -/
def creds (c : Dev nD) : sProp 𝕄 :=
  iprop(cred (tallyAt (barCell c) () 3)
    ∗ (cred (tallyAt (dmaCell c (rsR (pe c 1))) () N) ∗ cred (tallyAt (dmaCell c (rsR (pe c 2))) () N) ∗ cred (tallyAt (dmaCell c (rsR (pe c 3))) () N))
    ∗ cred (tallyAt (dmaCell c (agR (pe c 1))) () N) ∗ cred (tallyAt (dmaCell c (agR (pe c 2))) () N) ∗ cred (tallyAt (dmaCell c (agR (pe c 3))) () N))

/-- All device `c` holds of the exchanges before the kernel is entered. -/
def ghost (K : GSem nD τ sig → ℕ) (c : Dev nD) : sProp 𝕄 :=
  iprop(invs pb K ∗ atPos ER (barCell c) 0 ∅ 0 ∗ bigSep Finset.univ (fun i : Fin 14 => openTok ER (scopedCell (c, i)))
    ∗ toks c 0 ∗ toks c 1 ∗ toks c 2)

theorem close_at (κ : ℕ) (g : GSem nD τ sig) :
    iprop(cellInv ER (sched pb) κ g ∗ atPos ER g (0 + 1) ∅ 0) ⊢ (|={Set.univ}=> semVal g 0 : sProp 𝕄) :=
  Rounds.cell_close ER (sched pb) (Set.mem_univ κ) id (fun r hr => duties_later pb g r hr)

abbrev 𝒱₀ : Variants := Variants.none

end Cert.KernelIdeal.Own
-- ==== Proof.KernelIdeal.Steps.lean ====
/-
  The steps of the exchanges, each for any peer: telling a peer of the entry, sending it a quarter, sending it the sum, and waiting.
-/
module

public import proofs.«01_k».proof.Proof.KernelIdeal.Talk

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

variable (pb : Dev nD → Vec F S4x64x512 .bf16) (K : GSem nD τ sig → ℕ) (c : Dev nD) (W : Waits sig Unit)

/-- Telling a peer of the entry: the own two slots for its transfers go with it. -/
theorem step_signal (k : Fin 3) {j : Fin 4} (hj : k.succ = j) (O : CellTallies nD τ sig Unit) (kont : PUnit.{1} → Prog (TpuEff nD τ sig (Elt F) Λ₀ .tc) PUnit) (Kt : PUnit → sProp 𝕄) :
    iprop(invs pb K ∗ owes (c : Thread nD τ) (O + barO c j) W ∗ dutyTok ER (barCell (pe c j)) 0 c
        ∗ (∃ f, rSlot c (pe c j) fullShare f) ∗ (∃ f, gSlot c (pe c j) fullShare f)
        ∗ reached ER (dmaCell c (rsR (pe c j))) 0 ∗ reached ER (dmaCell c (agR (pe c j))) 0)
      ⊢ iprop((owes (c : Thread nD τ) O W -∗ wp frame (wpE (defs₀ (F := F)) 𝒱₀ (c : Thread nD τ) none) Set.univ (kont ⟨⟩) Kt)
        -∗ wp frame (wpE (defs₀ (F := F)) 𝒱₀ (c : Thread nD τ) none) Set.univ (.op (.semSignal (Dev.tc (pe c j)) barS ((1 : ℕ) : ℤ)) kont) Kt) := by
  subst hj
  iintro ⟨#Hinv, HO, Ht, Hr, Hg, #Hrr, #Hrg⟩ Hk
  ihave Hb := (inv_bar pb K (pe c k.succ)) $$ [Hinv]
  · iexact Hinv
  icases Hb with ⟨#HI, #HR⟩
  iapply (Rounds.wp_signal 𝒱₀ ER (sched pb) (c : Thread nD τ) none (dst := (pe c k.succ : Thread nD τ)) (sem := barS) (r := 0) (d := c)
      (κ := K (barCell (pe c k.succ))) (by rw [duties_bar]; exact Finset.mem_filter.mpr ⟨Finset.mem_univ _, (pe_ne c k.succ (Fin.succ_ne_zero k)).symm⟩)
      (amount_bar pb (pe c k.succ) c) () O rfl) $$ [HO Ht Hr Hg]
  · isplitr; · iexact HI
    isplitl [HO]; · iexact HO
    isplitl [Ht]; · iexact Ht
    isplitl [Hr Hg]
    · rw [payload_bar]; unfold barPay
      isplitl [Hr]; · iexact Hr
      isplitl [Hg]; · iexact Hg
      isplitr; · iexact Hrr
      iexact Hrg
    · iexact HR
  iintro HO
  iapply Hk
  iexact HO

/-- Waiting for all three peers' entries: their slots come. -/
theorem step_entries (O : CellTallies nD τ sig Unit) (hO : Later 1 O) (kont : PUnit.{1} → Prog (TpuEff nD τ sig (Elt F) Λ₀ .tc) PUnit) (Kt : PUnit → sProp 𝕄) :
    iprop(invs pb K ∗ levAts L lv ∗ cred (tallyAt (barCell c) () 3) ∗ owes (c : Thread nD τ) O W ∗ atPos ER (barCell c) 0 ∅ 0)
      ⊢ iprop(((owes (c : Thread nD τ) O (insert (SemLoc.reg barS, ()) W) ∗ atPos ER (barCell c) (0 + 1) ∅ 0
          ∗ barPay c (pe c 1) ∗ barPay c (pe c 2) ∗ barPay c (pe c 3))
          -∗ wp frame (wpE (defs₀ (F := F)) 𝒱₀ (c : Thread nD τ) none) Set.univ (kont ⟨⟩) Kt)
        -∗ wp frame (wpE (defs₀ (F := F)) 𝒱₀ (c : Thread nD τ) none) Set.univ (.op (.semWait barS ((3 : ℕ) : ℤ)) kont) Kt) := by
  iintro ⟨#Hinv, #Hlev, Hc, HO, Hat⟩ Hk
  ihave Hb := (inv_bar pb K c) $$ [Hinv]
  · iexact Hinv
  icases Hb with ⟨#HI, -⟩
  iapply (Rounds.wp_wait_rest_token 𝒱₀ ER (sched pb) (c : Thread nD τ) none (κ := K (barCell c))
      (wpE_semWait_eq 𝒱₀ (c : Thread nD τ) none Set.univ) (Set.mem_univ _) () (O := O) (W := W) (R := 0) (m := 0) (T := ∅)
      ((Nat.zero_add 3).trans (expect_bar pb c).symm)) $$ [Hc HO Hat]
  · isplitr; · iexact HI
    isplitl [Hc]; · iexact Hc
    isplitl [HO]; · iexact HO
    isplitr; · iapply (mayWait c (.reg barS) O hO); iexact Hlev
    iexact Hat
  iintro ⟨HO, Hat, -, Hpay⟩
  ihave Hp := (Entails.of_eq (rest_bar pb c)) $$ Hpay
  iapply Hk
  isplitl [HO]; · iexact HO
  isplitl [Hat]; · iexact Hat
  iexact Hp

/-- Sending a peer its quarter of the partial product. -/
theorem step_sendR (k : Fin 3) {j : Fin 4} (hj : k.succ = j) {d : Dev nD} (hd : d = pe c j) (O : CellTallies nD τ sig Unit) (f : Vec F S4x64x512 .bf16)
    {hsc : (slotM rM c).view.ref.isScScratch = false} {hsrc : (slotM pM (pe c j)).view.WordExact} {hdst : (slotM rM c).view.WordExact}
    {hsem : DmaTarget.Typed .vmem (.dma (rsR c)) (.remote (d : Thread nD τ) (slotM rM c) (.dma (rsS k)) hsc)}
    (kont : PUnit.{1} → Prog (TpuEff nD τ sig (Elt F) Λ₀ .tc) PUnit) (Kt : PUnit → sProp 𝕄) :
    iprop(invs pb K ∗ pSlot c (pe c j) fullShare (pb c) ∗ rSlot (pe c j) c fullShare f
        ∗ owes (c : Thread nD τ) (O + rsO c j) W
        ∗ dutyTok ER (dmaCell c (rsS k)) 0 0 ∗ reached ER (dmaCell c (rsS k)) 0
        ∗ dutyTok ER (dmaCell (pe c j) (rsR c)) 0 0 ∗ reached ER (dmaCell (pe c j) (rsR c)) 0)
      ⊢ iprop(((cred (tallyAt (dmaCell c (rsS k)) () N) ∗ owes (c : Thread nD τ) O W)
          -∗ wp frame (wpE (defs₀ (F := F)) 𝒱₀ (c : Thread nD τ) none) Set.univ (kont ⟨⟩) Kt)
        -∗ wp frame (wpE (defs₀ (F := F)) 𝒱₀ (c : Thread nD τ) none) Set.univ
          (.op (.enqueueDma (slotM pM (pe c j)) (.remote (Dev.tc d) (slotM rM c) (.dma (rsS k)) hsc) (.dma (rsR c)) hsrc hdst hsem) kont) Kt) := by
  subst hj; subst hd
  iintro ⟨#Hinv, Hp, Hr, HO, HtS, #HrS, HtR, #HrR⟩ Hk
  iapply (Rounds.wp_send_pointsTo 𝒱₀ ER (sched pb) (c : Thread nD τ) none (c' := (pe c k.succ : Thread nD τ)) (src := slotM pM (pe c k.succ))
      (dst := slotM rM c) (sS := .dma (rsS k)) (sem := .dma (rsR c)) (q := fullShare) (fs := pb c) (κ₁ := K (dmaCell c (rsS k)))
      (κ₂ := K (dmaCell (pe c k.succ) (rsR c))) (r₁ := 0) (r₂ := 0) (d₁ := 0) (d₂ := 0) (fd := f)
      (by rw [duties_dma, duty_rsS]; exact Finset.mem_singleton_self _)
      (by rw [duties_dma, duty_rsR _ _ (pe_ne c k.succ (Fin.succ_ne_zero k)).symm]; exact Finset.mem_singleton_self _)
      () () N rfl (amount_dma pb c (rsS k) 0) (amount_dma pb (pe c k.succ) (rsR c) 0) O rfl (W := W)
      (by rw [payload_rsS]; unfold pSlot; exact BI.Entails.refl _)
      (by
        rw [payload_rsR]; unfold rSlot
        refine Entails.of_eq (pointsTo_congr fun i hi => ?_)
        rw [set_r] at hi
        rw [landed_r (pe c k.succ) c f (pb c) i hi]
        unfold recvV
        rw [(mem_slotSet c i).mp hi])) $$ [Hp Hr HO HtS HtR]
  · isplitr; · iapply (inv_rsS pb K c k); iexact Hinv
    isplitr; · iapply (inv_rsR pb K (pe c k.succ) c); iexact Hinv
    isplitl [Hp]; · unfold pSlot; iexact Hp
    isplitl [Hr]; · unfold rSlot; iexact Hr
    isplitl [HO]; · iexact HO
    isplitl [HtS]; · iexact HtS
    isplitr; · iexact HrS
    isplitl [HtR]; · iexact HtR
    iexact HrR
  iexact Hk

/-- Sending a peer the own sum. -/
theorem step_sendG (k : Fin 3) {j : Fin 4} (hj : k.succ = j) {d : Dev nD} (hd : d = pe c j) (O : CellTallies nD τ sig Unit) (f : Vec F S4x64x512 .bf16)
    {hsc : (slotM gM c).view.ref.isScScratch = false} {hsrc : (slotM gM c).view.WordExact} {hdst : (slotM gM c).view.WordExact}
    {hsem : DmaTarget.Typed .vmem (.dma (agR c)) (.remote (d : Thread nD τ) (slotM gM c) (.dma (agS k)) hsc)}
    (kont : PUnit.{1} → Prog (TpuEff nD τ sig (Elt F) Λ₀ .tc) PUnit) (Kt : PUnit → sProp 𝕄) :
    iprop(invs pb K ∗ gSlot c c (agShare k) (gathV pb) ∗ gSlot (pe c j) c fullShare f
        ∗ owes (c : Thread nD τ) (O + agO c j) W
        ∗ dutyTok ER (dmaCell c (agS k)) 0 0 ∗ reached ER (dmaCell c (agS k)) 0
        ∗ dutyTok ER (dmaCell (pe c j) (agR c)) 0 0 ∗ reached ER (dmaCell (pe c j) (agR c)) 0)
      ⊢ iprop(((cred (tallyAt (dmaCell c (agS k)) () N) ∗ owes (c : Thread nD τ) O W)
          -∗ wp frame (wpE (defs₀ (F := F)) 𝒱₀ (c : Thread nD τ) none) Set.univ (kont ⟨⟩) Kt)
        -∗ wp frame (wpE (defs₀ (F := F)) 𝒱₀ (c : Thread nD τ) none) Set.univ
          (.op (.enqueueDma (slotM gM c) (.remote (Dev.tc d) (slotM gM c) (.dma (agS k)) hsc) (.dma (agR c)) hsrc hdst hsem) kont) Kt) := by
  subst hj; subst hd
  iintro ⟨#Hinv, Hp, Hr, HO, HtS, #HrS, HtR, #HrR⟩ Hk
  iapply (Rounds.wp_send_pointsTo 𝒱₀ ER (sched pb) (c : Thread nD τ) none (c' := (pe c k.succ : Thread nD τ)) (src := slotM gM c)
      (dst := slotM gM c) (sS := .dma (agS k)) (sem := .dma (agR c)) (q := agShare k) (fs := gathV pb) (κ₁ := K (dmaCell c (agS k)))
      (κ₂ := K (dmaCell (pe c k.succ) (agR c))) (r₁ := 0) (r₂ := 0) (d₁ := 0) (d₂ := 0) (fd := f)
      (by rw [duties_dma, duty_agS]; exact Finset.mem_singleton_self _)
      (by rw [duties_dma, duty_agR _ _ (pe_ne c k.succ (Fin.succ_ne_zero k)).symm]; exact Finset.mem_singleton_self _)
      () () N rfl (amount_dma pb c (agS k) 0) (amount_dma pb (pe c k.succ) (agR c) 0) O rfl (W := W)
      (by rw [payload_agS]; unfold gSlot; exact BI.Entails.refl _)
      (by
        rw [payload_agR]; unfold gSlot
        refine Entails.of_eq (pointsTo_congr fun i hi => ?_)
        rw [set_g] at hi
        rw [landed_g c c f (gathV pb) i hi]
        conv_rhs => rw [eq_ix3 (n0 := 4) (n1 := 64) (n2 := 512) i, (mem_slotSet c i).mp hi]
        rfl)) $$ [Hp Hr HO HtS HtR]
  · isplitr; · iapply (inv_agS pb K c k); iexact Hinv
    isplitr; · iapply (inv_agR pb K (pe c k.succ) c); iexact Hinv
    isplitl [Hp]; · unfold gSlot; iexact Hp
    isplitl [Hr]; · unfold gSlot; iexact Hr
    isplitl [HO]; · iexact HO
    isplitl [HtS]; · iexact HtS
    isplitr; · iexact HrS
    isplitl [HtR]; · iexact HtR
    iexact HrR
  iexact Hk

/-- Waiting on a transfer counter somebody raises: its payload comes. -/
theorem step_wait (s : DmaSem sig) (κ : ℕ) (hd : dmaDuty c s.val = {0}) (O : CellTallies nD τ sig Unit)
    (hO : (levAts L lv : sProp 𝕄) ⊢ MayWait (c : Thread nD τ) (.dma s) () O)
    {src dst : Memref sig .tc .vmem S64x512 .bf16} {hs : src.view.WordExact} {ht : dst.view.WordExact}
    (hN : dst.view.dmaCredit = N)
    (kont : PUnit.{1} → Prog (TpuEff nD τ sig (Elt F) Λ₀ .tc) PUnit) (Kt : PUnit → sProp 𝕄) :
    iprop(cellInv ER (sched pb) κ (dmaCell c s) ∗ levAts L lv ∗ cred (tallyAt (dmaCell c s) () N) ∗ owes (c : Thread nD τ) O W ∗ atPos ER (dmaCell c s) 0 ∅ 0)
      ⊢ iprop((((∃ W', owes (c : Thread nD τ) O W') ∗ atPos ER (dmaCell c s) (0 + 1) ∅ 0 ∗ (sched pb).payload (dmaCell c s) 0 0)
          -∗ wp frame (wpE (defs₀ (F := F)) 𝒱₀ (c : Thread nD τ) none) Set.univ (kont ⟨⟩) Kt)
        -∗ wp frame (wpE (defs₀ (F := F)) 𝒱₀ (c : Thread nD τ) none) Set.univ (.op (.waitDma2 s src dst hs ht) kont) Kt) := by
  iintro ⟨#HI, #Hlev, Hc, HO, Hat⟩ Hk
  iapply (Rounds.wp_wait_rest_token 𝒱₀ ER (sched pb) (c : Thread nD τ) none (κ := κ)
      (wpE_waitDma2_eq (src := src) (dst := dst) 𝒱₀ (c : Thread nD τ) none Set.univ) (Set.mem_univ _) () (O := O) (W := W) (R := 0) (m := 0) (T := ∅)
      ((Nat.zero_add _).trans (hN.trans (expect_dma pb c s hd).symm))) $$ [Hc HO Hat]
  · isplitr; · iexact HI
    isplitl [Hc]; · rw [hN]; iexact Hc
    isplitl [HO]; · iexact HO
    isplitr; · iapply hO; iexact Hlev
    iexact Hat
  iintro ⟨HO, Hat, -, Hpay⟩
  ihave Hp := (Entails.of_eq (rest_dma pb c s hd)) $$ Hpay
  iapply Hk
  isplitl [HO]; · iexists _; iexact HO
  isplitl [Hat]; · iexact Hat
  iexact Hp

end Cert.KernelIdeal.Own
-- ==== Proof.KernelIdeal.Slots.lean ====
/-
  The four-slot buffers, whole and by slots; loads and stores of one slot, and of a whole buffer.
-/
module

public import proofs.«01_k».proof.Proof.KernelIdeal.Steps

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

/-- The three buffers, whole. -/
def pBuf (c : Dev nD) (q : PosShare TreeShare) (f : Vec F S4x64x512 .bf16) : sProp 𝕄 := pM.view.loc (c : Thread nD τ) ↦{q} f
def rBuf (c : Dev nD) (q : PosShare TreeShare) (f : Vec F S4x64x512 .bf16) : sProp 𝕄 := rM.view.loc (c : Thread nD τ) ↦{q} f
def gBuf (c : Dev nD) (q : PosShare TreeShare) (f : Vec F S4x64x512 .bf16) : sProp 𝕄 := gM.view.loc (c : Thread nD τ) ↦{q} f

theorem pSlot_eq (c : Dev nD) (j : Fin 4) (q : PosShare TreeShare) (f : Vec F S4x64x512 .bf16) :
    (pSlot c j q f : sProp 𝕄) = (pM.view.loc (c : Thread nD τ) ↦[slotSet j]{q} f) :=
  congrArg (fun S => (pM.view.loc (c : Thread nD τ) ↦[S]{q} f : sProp 𝕄)) (set_p j)
theorem rSlot_eq (c : Dev nD) (j : Fin 4) (q : PosShare TreeShare) (f : Vec F S4x64x512 .bf16) :
    (rSlot c j q f : sProp 𝕄) = (rM.view.loc (c : Thread nD τ) ↦[slotSet j]{q} f) :=
  congrArg (fun S => (rM.view.loc (c : Thread nD τ) ↦[S]{q} f : sProp 𝕄)) (set_r j)
theorem gSlot_eq (c : Dev nD) (j : Fin 4) (q : PosShare TreeShare) (f : Vec F S4x64x512 .bf16) :
    (gSlot c j q f : sProp 𝕄) = (gM.view.loc (c : Thread nD τ) ↦[slotSet j]{q} f) :=
  congrArg (fun S => (gM.view.loc (c : Thread nD τ) ↦[S]{q} f : sProp 𝕄)) (set_g j)

theorem pBuf_slots (c : Dev nD) (q : PosShare TreeShare) (f : Vec F S4x64x512 .bf16) :
    (pBuf c q f : sProp 𝕄) = iprop(pSlot c c q f ∗ pSlot c (pe c 1) q f ∗ pSlot c (pe c 2) q f ∗ pSlot c (pe c 3) q f) := by
  have h := pointsTo_biUnion (Ix := Unit) (Name := ℕ) (U := UU) (Lvl := ℕ) (ℓ := pM.view.loc (c : Thread nD τ)) (q := q) (f := f) Finset.univ slotSet
    (fun t _ t' _ hne => slotSet_disjoint t t' hne)
  rw [slotSet_cover, bigSep_ring c] at h
  rw [pSlot_eq, pSlot_eq, pSlot_eq, pSlot_eq]; exact h
theorem rBuf_slots (c : Dev nD) (q : PosShare TreeShare) (f : Vec F S4x64x512 .bf16) :
    (rBuf c q f : sProp 𝕄) = iprop(rSlot c c q f ∗ rSlot c (pe c 1) q f ∗ rSlot c (pe c 2) q f ∗ rSlot c (pe c 3) q f) := by
  have h := pointsTo_biUnion (Ix := Unit) (Name := ℕ) (U := UU) (Lvl := ℕ) (ℓ := rM.view.loc (c : Thread nD τ)) (q := q) (f := f) Finset.univ slotSet
    (fun t _ t' _ hne => slotSet_disjoint t t' hne)
  rw [slotSet_cover, bigSep_ring c] at h
  rw [rSlot_eq, rSlot_eq, rSlot_eq, rSlot_eq]; exact h
theorem gBuf_slots (c : Dev nD) (q : PosShare TreeShare) (f : Vec F S4x64x512 .bf16) :
    (gBuf c q f : sProp 𝕄) = iprop(gSlot c c q f ∗ gSlot c (pe c 1) q f ∗ gSlot c (pe c 2) q f ∗ gSlot c (pe c 3) q f) := by
  have h := pointsTo_biUnion (Ix := Unit) (Name := ℕ) (U := UU) (Lvl := ℕ) (ℓ := gM.view.loc (c : Thread nD τ)) (q := q) (f := f) Finset.univ slotSet
    (fun t _ t' _ hne => slotSet_disjoint t t' hne)
  rw [slotSet_cover, bigSep_ring c] at h
  rw [gSlot_eq, gSlot_eq, gSlot_eq, gSlot_eq]; exact h

theorem rSlot_congr (c : Dev nD) (j : Fin 4) (q : PosShare TreeShare) (f g : Vec F S4x64x512 .bf16) (h : ∀ i, i 0 = j → f i = g i) :
    (rSlot c j q f : sProp 𝕄) = rSlot c j q g := by
  rw [rSlot_eq, rSlot_eq]; exact pointsTo_congr fun i hi => h i ((mem_slotSet j i).mp hi)
theorem gSlot_congr (c : Dev nD) (j : Fin 4) (q : PosShare TreeShare) (f g : Vec F S4x64x512 .bf16) (h : ∀ i, i 0 = j → f i = g i) :
    (gSlot c j q f : sProp 𝕄) = gSlot c j q g := by
  rw [gSlot_eq, gSlot_eq]; exact pointsTo_congr fun i hi => h i ((mem_slotSet j i).mp hi)

/-- The reduce buffer put together again: the own slot untouched, the others as they came. -/
theorem rBuf_join (c : Dev nD) (f g : Vec F S4x64x512 .bf16) :
    iprop(rSlot c c fullShare f ∗ rSlot c (pe c 1) fullShare g ∗ rSlot c (pe c 2) fullShare g ∗ rSlot c (pe c 3) fullShare g)
      ⊢ (iprop(∃ h, rBuf c fullShare h) : sProp 𝕄) := by
  let h : Vec F S4x64x512 .bf16 := fun i => if (i 0).val = c.val then f i else g i
  have hk : ∀ k : Fin 4, k ≠ 0 → (rSlot c (pe c k) fullShare g : sProp 𝕄) = rSlot c (pe c k) fullShare h := fun k hk =>
    rSlot_congr c _ _ g h fun i hi => (if_neg fun e => pe_ne c k hk (hi.symm.trans (Fin.ext e))).symm
  rw [rSlot_congr c c fullShare f h fun i hi => (if_pos (congrArg Fin.val hi)).symm, hk 1 (by decide), hk 2 (by decide), hk 3 (by decide), ← rBuf_slots]
  iintro H; iexists h; iexact H

theorem gSlot_halves (c : Dev nD) (j : Fin 4) (q : PosShare TreeShare) (f : Vec F S4x64x512 .bf16) :
    (gSlot c j q f : sProp 𝕄) ⊣⊢ iprop(gSlot c j q.left f ∗ gSlot c j q.right f) := by
  unfold gSlot; exact pointsTo_share (by rw [PosShare.left_op_right]; exact Part.mem_some q)

variable (c : Dev nD)

/-- A load through a view whose places are held, whatever the value is called. -/
theorem step_load {s : Shape} {e : EltTy} {m : Memref sig .tc .vmem s e} {r : Rect s} {hl : m.view.LoadsAt r} {q : PosShare TreeShare}
    {S : Finset (Idx (m.view.loc (c : Thread nD τ)))} {f : Buf (Elt F) (m.view.loc (c : Thread nD τ))} {v : r.shape.Idx → Elt F e}
    (hv : (m.access r).read (Elt F) f = v) (hS : (m.access r).set ⊆ S)
    (kont : (r.shape.Idx → Elt F e) → Prog (TpuEff nD τ sig (Elt F) Λ₀ .tc) PUnit) (Kt : PUnit → sProp 𝕄) :
    (m.view.loc (c : Thread nD τ) ↦[S]{q} f)
      ⊢ iprop(((m.view.loc (c : Thread nD τ) ↦[S]{q} f) -∗ wp frame (wpE (defs₀ (F := F)) 𝒱₀ (c : Thread nD τ) none) Set.univ (kont v) Kt)
        -∗ wp frame (wpE (defs₀ (F := F)) 𝒱₀ (c : Thread nD τ) none) Set.univ (.op (.load m r.toLoadRect hl) kont) Kt) := by
  subst hv
  exact wp_load_rect (m := m) (r := r) (hl := hl) (k := kont) (S := S) (q := q) (f := f) 𝒱₀ (c : Thread nD τ) none Set.univ hS

/-- A store whose place is read first and the value dropped. -/
theorem step_store {s : Shape} {e : EltTy} {m : Memref sig .tc .vmem s e} {r : Rect s} {hl : m.view.LoadsAt r} {w : r.shape.Idx → Elt F e}
    {hx : (m.access r).Stores Finset.univ} {hm : Finset.univ = Finset.univ ∨ ∀ a, r.stride a = 1}
    {S : Finset (Idx (m.view.loc (c : Thread nD τ)))} {f : Buf (Elt F) (m.view.loc (c : Thread nD τ))} {L : List (View.Piece (Elt F) s e)}
    (hS : (m.access r).set ⊆ S)
    (kont : PUnit.{1} → Prog (TpuEff nD τ sig (Elt F) Λ₀ .tc) PUnit) (Kt : PUnit → sProp 𝕄) :
    (m.view.loc (c : Thread nD τ) ↦[S]{fullShare} m.view.writes (Elt F) f L)
      ⊢ iprop(((m.view.loc (c : Thread nD τ) ↦[S]{fullShare} m.view.writes (Elt F) f (⟨r, w⟩ :: L)) -∗ wp frame (wpE (defs₀ (F := F)) 𝒱₀ (c : Thread nD τ) none) Set.univ (kont ⟨⟩) Kt)
        -∗ wp frame (wpE (defs₀ (F := F)) 𝒱₀ (c : Thread nD τ) none) Set.univ (.op (.load m r.toLoadRect hl) fun _ => .op (.store m r w Finset.univ hx hm) kont) Kt) := by
  iintro H Hk
  iapply (step_load c (q := fullShare) rfl hS _ Kt) $$ H
  iintro H
  iapply (wp_store_writes (m := m) (r := r) (w := w) (hx := hx) (hm := hm) (k := kont) (S := S) (f := f) (L := L) 𝒱₀ (c : Thread nD τ) none Set.univ hS) $$ H
  iintro H
  iapply Hk
  iexact H

/-- The first such store into a buffer. -/
theorem step_store₀ {s : Shape} {e : EltTy} {m : Memref sig .tc .vmem s e} {r : Rect s} {hl : m.view.LoadsAt r} {w : r.shape.Idx → Elt F e}
    {hx : (m.access r).Stores Finset.univ} {hm : Finset.univ = Finset.univ ∨ ∀ a, r.stride a = 1}
    {S : Finset (Idx (m.view.loc (c : Thread nD τ)))} {f : Buf (Elt F) (m.view.loc (c : Thread nD τ))}
    (hS : (m.access r).set ⊆ S)
    (kont : PUnit.{1} → Prog (TpuEff nD τ sig (Elt F) Λ₀ .tc) PUnit) (Kt : PUnit → sProp 𝕄) :
    (m.view.loc (c : Thread nD τ) ↦[S]{fullShare} f)
      ⊢ iprop(((m.view.loc (c : Thread nD τ) ↦[S]{fullShare} m.view.writes (Elt F) f [⟨r, w⟩]) -∗ wp frame (wpE (defs₀ (F := F)) 𝒱₀ (c : Thread nD τ) none) Set.univ (kont ⟨⟩) Kt)
        -∗ wp frame (wpE (defs₀ (F := F)) 𝒱₀ (c : Thread nD τ) none) Set.univ (.op (.load m r.toLoadRect hl) fun _ => .op (.store m r w Finset.univ hx hm) kont) Kt) :=
  step_store c (L := []) hS kont Kt

theorem access_p (j : Fin 4) : (pM.access (slotR j)).set = (slotM pM j).view.set := by rw [set_p]; exact View.set_slice_whole _ _
theorem access_r (j : Fin 4) : (rM.access (slotR j)).set = (slotM rM j).view.set := by rw [set_r]; exact View.set_slice_whole _ _
theorem access_g (j : Fin 4) : (gM.access (slotR j)).set = (slotM gM j).view.set := by rw [set_g]; exact View.set_slice_whole _ _

theorem written_g (j : Fin 4) (f g : Vec F S4x64x512 .bf16) (i : S4x64x512.Idx) (hi : i ∈ slotSet j) :
    gM.view.writes (Elt F) f [⟨slotR j, slotVec g j⟩] i = g i := by
  have e0 : i = ix3 (n0 := 4) (n1 := 64) (n2 := 512) j (i 1) (i 2) := by
    conv_lhs => rw [eq_ix3 (n0 := 4) (n1 := 64) (n2 := 512) i, (mem_slotSet j i).mp hi]
    rfl
  have e : (slotR j).emb (ix3 (n0 := 1) (n1 := 64) (n2 := 512) 0 (i 1) (i 2)) = i := (slotR_emb j _).trans e0.symm
  have h := View.read_writes_cons_emb gM.view f (slotR j) (slotVec g j) [] (ix3 (n0 := 1) (n1 := 64) (n2 := 512) 0 (i 1) (i 2))
  have h2 : gM.view.read (Elt F) (gM.view.writes (Elt F) f [⟨slotR j, slotVec g j⟩]) i = slotVec g j (ix3 (n0 := 1) (n1 := 64) (n2 := 512) 0 (i 1) (i 2)) :=
    (congrArg (gM.view.read (Elt F) (gM.view.writes (Elt F) f [⟨slotR j, slotVec g j⟩])) e.symm).trans h
  have h3 : ∀ X : Vec F S4x64x512 .bf16, gM.view.read (Elt F) X i = X i := fun _ => rfl
  have h4 : slotVec g j (ix3 (n0 := 1) (n1 := 64) (n2 := 512) 0 (i 1) (i 2)) = g (ix3 (n0 := 4) (n1 := 64) (n2 := 512) j (i 1) (i 2)) := rfl
  rw [h3, h4, ← e0] at h2
  exact h2

theorem gSlot_written (j : Fin 4) (f g : Vec F S4x64x512 .bf16) :
    (gM.view.loc (c : Thread nD τ) ↦[slotSet j]{fullShare} gM.view.writes (Elt F) f [⟨slotR j, slotVec g j⟩] : sProp 𝕄) = gSlot c j fullShare g := by
  rw [gSlot_eq]
  exact pointsTo_congr fun i hi => written_g j f g i hi

section OneSlot
variable {off : Fin 3 → ℕ} (j : Fin 4) (ho : off = ![j.val, 0, 0]) {inb : ∀ a, off a + S1x64x512.size a ≤ S4x64x512.size a} {q : PosShare TreeShare} {f : Vec F S4x64x512 .bf16}
include ho

/-- One slot, read: of the partial products, -/
theorem step_load_p {hl : pM.view.LoadsAt (Rect.unit (s := S4x64x512) off S1x64x512.size inb).toLoadRect}
    (kont : Vec F S1x64x512 .bf16 → Prog (TpuEff nD τ sig (Elt F) Λ₀ .tc) PUnit) (Kt : PUnit → sProp 𝕄) :
    pSlot c j q f ⊢ iprop((pSlot c j q f -∗ wp frame (wpE (defs₀ (F := F)) 𝒱₀ (c : Thread nD τ) none) Set.univ (kont (slotVec f j)) Kt)
        -∗ wp frame (wpE (defs₀ (F := F)) 𝒱₀ (c : Thread nD τ) none) Set.univ (.op (.load pM (Rect.unit (s := S4x64x512) off S1x64x512.size inb).toLoadRect hl) kont) Kt) := by
  subst ho
  exact step_load c (read_p j f) (Finset.subset_of_eq (access_p j)) kont Kt
/-- of the reduce buffer, -/
theorem step_load_r {hl : rM.view.LoadsAt (Rect.unit (s := S4x64x512) off S1x64x512.size inb).toLoadRect}
    (kont : Vec F S1x64x512 .bf16 → Prog (TpuEff nD τ sig (Elt F) Λ₀ .tc) PUnit) (Kt : PUnit → sProp 𝕄) :
    rSlot c j q f ⊢ iprop((rSlot c j q f -∗ wp frame (wpE (defs₀ (F := F)) 𝒱₀ (c : Thread nD τ) none) Set.univ (kont (slotVec f j)) Kt)
        -∗ wp frame (wpE (defs₀ (F := F)) 𝒱₀ (c : Thread nD τ) none) Set.univ (.op (.load rM (Rect.unit (s := S4x64x512) off S1x64x512.size inb).toLoadRect hl) kont) Kt) := by
  subst ho
  exact step_load c (read_r j f) (Finset.subset_of_eq (access_r j)) kont Kt
/-- of the whole gather buffer. -/
theorem step_load_g {hl : gM.view.LoadsAt (Rect.unit (s := S4x64x512) off S1x64x512.size inb).toLoadRect}
    (kont : Vec F S1x64x512 .bf16 → Prog (TpuEff nD τ sig (Elt F) Λ₀ .tc) PUnit) (Kt : PUnit → sProp 𝕄) :
    gBuf c q f ⊢ iprop((gBuf c q f -∗ wp frame (wpE (defs₀ (F := F)) 𝒱₀ (c : Thread nD τ) none) Set.univ (kont (slotVec f j)) Kt)
        -∗ wp frame (wpE (defs₀ (F := F)) 𝒱₀ (c : Thread nD τ) none) Set.univ (.op (.load gM (Rect.unit (s := S4x64x512) off S1x64x512.size inb).toLoadRect hl) kont) Kt) := by
  subst ho
  exact step_load c (read_g j f) (Finset.subset_univ _) kont Kt

/-- The own slot of the gather buffer, written: it holds what any buffer with these values in the slot holds there. -/
theorem step_store_g {hl : gM.view.LoadsAt (Rect.unit (s := S4x64x512) off S1x64x512.size inb).toLoadRect} {w : Vec F S1x64x512 .bf16}
    {hx : (gM.access (Rect.unit (s := S4x64x512) off S1x64x512.size inb)).Stores Finset.univ} {hm : Finset.univ = Finset.univ ∨ ∀ a, (Rect.unit (s := S4x64x512) off S1x64x512.size inb).stride a = 1}
    (g : Vec F S4x64x512 .bf16) (hw : slotVec g j = w)
    (kont : PUnit.{1} → Prog (TpuEff nD τ sig (Elt F) Λ₀ .tc) PUnit) (Kt : PUnit → sProp 𝕄) :
    gSlot c j fullShare f ⊢ iprop((gSlot c j fullShare g -∗ wp frame (wpE (defs₀ (F := F)) 𝒱₀ (c : Thread nD τ) none) Set.univ (kont ⟨⟩) Kt)
        -∗ wp frame (wpE (defs₀ (F := F)) 𝒱₀ (c : Thread nD τ) none) Set.univ
          (.op (.load gM (Rect.unit (s := S4x64x512) off S1x64x512.size inb).toLoadRect hl) fun _ => .op (.store gM (Rect.unit (s := S4x64x512) off S1x64x512.size inb) w Finset.univ hx hm) kont) Kt) := by
  subst ho; subst hw
  rw [gSlot_eq c j fullShare f, ← gSlot_written c j f g]
  exact step_store₀ c (m := gM) (r := slotR j) (w := slotVec g j) (S := slotSet j) (f := f) (Finset.subset_of_eq (View.set_slice_whole _ _)) kont Kt
end OneSlot

end Cert.KernelIdeal.Own
-- ==== Proof.KernelIdeal.Buffers.lean ====
/-
  What the three buffers that a device fills piece by piece hold once they are full: the attention of its heads, its partial product, the result.
-/
module

public import proofs.«01_k».proof.Proof.KernelIdeal.Slots
public import Idealize.ShloMosaic.Lib.ValueLayout

@[expose] public section

noncomputable section

namespace Cert.KernelIdeal.Own

open Idealize.ShloMosaic Idealize.ShloMosaic.TcCoe
open Idealize.ShloMosaic.ValueIdx
open Cert.KernelIdeal.Gen

variable {F : FTy → Type} [FloatOps F]

abbrev cM : Memref sig .tc .vmem S256x256 .bf16 := Memref.whole cc0_scratch0
abbrev oM : Memref sig .tc .vmem S256x512 .f32 := Memref.whole cc0_stg8_0

/-- The attention at row `y 0` of batch `b`, column `y 1` of head `h`. -/
theorem ctxV_at (o : Ops F) (i : S256x256.Idx) (b : Fin 2) (h : Fin 4) (y : S128x64.Idx)
    (h0 : (i 0).val = 128 * b.val + (y 0).val) (h1 : (i 1).val = 64 * h.val + (y 1).val) : ctxV o i = headOut o b h y := by
  have y0 : (y 0).val < 128 := (y 0).isLt
  have y1 : (y 1).val < 64 := (y 1).isLt
  have eb : ∀ p, (⟨(i 0).val / 128, p⟩ : Fin 2) = b := fun p => Fin.ext (by show (i 0).val / 128 = b.val; omega)
  have eh : ∀ p, (⟨(i 1).val / 64, p⟩ : Fin 4) = h := fun p => Fin.ext (by show (i 1).val / 64 = h.val; omega)
  have e0 : ∀ p, (⟨(i 0).val % 128, p⟩ : Fin 128) = y 0 := fun p => Fin.ext (by show (i 0).val % 128 = (y 0).val; omega)
  have e1 : ∀ p, (⟨(i 1).val % 64, p⟩ : Fin 64) = y 1 := fun p => Fin.ext (by show (i 1).val % 64 = (y 1).val; omega)
  unfold ctxV
  rw [eb, eh, e0, e1]
  exact congrArg _ (eq_ix2 (n0 := 128) (n1 := 64) y).symm

theorem inb_ctx (b : Fin 2) (h : Fin 4) : ∀ a, (![128 * b.val, 64 * h.val] : Fin 2 → ℕ) a + S128x64.size a ≤ S256x256.size a := by revert b h; decide

/-- The eight blocks of the attention, as stored. -/
abbrev ctxPieces (o : Ops F) : List (View.Piece (Elt F) S256x256 .bf16) :=
  [⟨Rect.unit (s := S256x256) ![128, 192] S128x64.size (inb_ctx 1 3), headOut o 1 3⟩, ⟨Rect.unit (s := S256x256) ![128, 128] S128x64.size (inb_ctx 1 2), headOut o 1 2⟩,
   ⟨Rect.unit (s := S256x256) ![128, 64] S128x64.size (inb_ctx 1 1), headOut o 1 1⟩, ⟨Rect.unit (s := S256x256) ![128, 0] S128x64.size (inb_ctx 1 0), headOut o 1 0⟩,
   ⟨Rect.unit (s := S256x256) ![0, 192] S128x64.size (inb_ctx 0 3), headOut o 0 3⟩, ⟨Rect.unit (s := S256x256) ![0, 128] S128x64.size (inb_ctx 0 2), headOut o 0 2⟩,
   ⟨Rect.unit (s := S256x256) ![0, 64] S128x64.size (inb_ctx 0 1), headOut o 0 1⟩, ⟨Rect.unit (s := S256x256) ![0, 0] S128x64.size (inb_ctx 0 0), headOut o 0 0⟩]

theorem ctx_full (o : Ops F) (f : Vec F S256x256 .bf16) : cM.view.writes (Elt F) f (ctxPieces o) = ctxV o := by
  have hp : ∀ (b : Fin 2) (h : Fin 4) (x : S128x64.Idx),
      headOut o b h x = ctxV o ((Rect.unit (s := S256x256) ![128 * b.val, 64 * h.val] S128x64.size (inb_ctx b h)).emb x) := fun b h x =>
    (ctxV_at o _ b h x (by show 128 * b.val + 1 * (x 0).val = _; omega) (by show 64 * h.val + 1 * (x 1).val = _; omega)).symm
  have key : ∀ y, cM.view.read (Elt F) (cM.view.writes (Elt F) f (ctxPieces o)) y = ctxV o y := fun y =>
    View.read_writes_apply_of_pieces cM.view f (ctxV o) (ctxPieces o)
      (by
        intro p hp'
        simp only [ctxPieces, List.mem_cons, List.not_mem_nil, or_false] at hp'
        rcases hp' with rfl | rfl | rfl | rfl | rfl | rfl | rfl | rfl
        · exact hp 1 3
        · exact hp 1 2
        · exact hp 1 1
        · exact hp 1 0
        · exact hp 0 3
        · exact hp 0 2
        · exact hp 0 1
        · exact hp 0 0)
      y (View.cover_of_tiled (ctxPieces o) ![128, 64] rfl y)
  funext y
  have h3 : ∀ X : Vec F S256x256 .bf16, cM.view.read (Elt F) X y = X y := fun _ => rfl
  exact (h3 _).symm.trans (key y)

theorem slices_quarter (j : Fin 4) : S256x512.Slices ![64 * j.val, 0] S64x512 := by revert j; decide

/-- Quarter `j` of the partial product, as it is stored in slot `j`. -/
def quarter (o : Ops F) (j : Fin 4) : Vec F S1x64x512 .bf16 :=
  shapeCast S1x64x512 (extractStridedSlice S64x512 ![64 * j.val, 0] (k0_pay29 (ctxV o) o.wo) (slices_quarter j)) shapeCasts_S64x512_S1x64x512

theorem quarter_eq (o : Ops F) (j : Fin 4) : quarter o j = slotVec (partV o) j := by
  funext x
  have e : x = ix3 (n0 := 1) (n1 := 64) (n2 := 512) 0 (x 1) (x 2) := by
    conv_lhs => rw [eq_ix3 (n0 := 1) (n1 := 64) (n2 := 512) x]
    exact congrArg (fun z => ix3 (n0 := 1) (n1 := 64) (n2 := 512) z (x 1) (x 2)) (Subsingleton.elim _ _)
  have hk : ∀ a : Fin 2, ((ix2 (n0 := 256) (n1 := 512) ⟨64 * j.val + (x 1).val, by have h : (x 1).val < 64 := (x 1).isLt; have := j.isLt; omega⟩ (x 2)) a).val
      = (![64 * j.val, 0] : Fin 2 → ℕ) a + ((ix2 (n0 := 64) (n1 := 512) (x 1) (x 2)) a).val := by
    intro a
    fin_cases a
    · rfl
    · show (x 2).val = 0 + (x 2).val; omega
  refine (congrArg (quarter o j) e).trans ((shapeCast_ab_1ab_apply (a := 64) (b := 512) _ shapeCasts_S64x512_S1x64x512 0 (x 1) (x 2)).trans
    ((extractStridedSlice_apply _ (k0_pay29 (ctxV o) o.wo) (slices_quarter j) _ _ hk).trans rfl))

/-- The four quarters, as stored. -/
abbrev partPieces (o : Ops F) : List (View.Piece (Elt F) S4x64x512 .bf16) :=
  [⟨Rect.unit (s := S4x64x512) ![3, 0, 0] S1x64x512.size inb_S4x64x512_S1x64x512_3_0_0, quarter o 3⟩, ⟨Rect.unit (s := S4x64x512) ![2, 0, 0] S1x64x512.size inb_S4x64x512_S1x64x512_2_0_0, quarter o 2⟩, ⟨Rect.unit (s := S4x64x512) ![1, 0, 0] S1x64x512.size inb_S4x64x512_S1x64x512_1_0_0, quarter o 1⟩, ⟨Rect.unit (s := S4x64x512) ![0, 0, 0] S1x64x512.size inb_S4x64x512_S1x64x512_0_0_0, quarter o 0⟩]

theorem part_full (o : Ops F) (f : Vec F S4x64x512 .bf16) : pM.view.writes (Elt F) f (partPieces o) = partV o := by
  have hp : ∀ (j : Fin 4) (x : S1x64x512.Idx), quarter o j x = partV o ((slotR j).emb x) := fun j x => by rw [quarter_eq, slotR_emb]; rfl
  have key : ∀ y, pM.view.read (Elt F) (pM.view.writes (Elt F) f (partPieces o)) y = partV o y := fun y =>
    View.read_writes_apply_of_pieces pM.view f (partV o) (partPieces o)
      (by
        intro p hp'
        simp only [partPieces, List.mem_cons, List.not_mem_nil, or_false] at hp'
        rcases hp' with rfl | rfl | rfl | rfl
        · exact hp 3
        · exact hp 2
        · exact hp 1
        · exact hp 0)
      y (View.cover_of_tiled (partPieces o) ![1, 64, 512] rfl y)
  funext y
  have h3 : ∀ X : Vec F S4x64x512 .bf16, pM.view.read (Elt F) X y = X y := fun _ => rfl
  exact (h3 _).symm.trans (key y)

theorem inb_out (j : Fin 4) : ∀ a, (![64 * j.val, 0] : Fin 2 → ℕ) a + S64x512.size a ≤ S256x512.size a := by revert j; decide

/-- The four blocks of rows of the result, as stored. -/
abbrev outPieces (g : Vec F S4x64x512 .bf16) : List (View.Piece (Elt F) S256x512 .f32) :=
  [⟨Rect.unit (s := S256x512) ![192, 0] S64x512.size (inb_out 3), k0_pay36 (slotVec g 3)⟩, ⟨Rect.unit (s := S256x512) ![128, 0] S64x512.size (inb_out 2), k0_pay36 (slotVec g 2)⟩,
   ⟨Rect.unit (s := S256x512) ![64, 0] S64x512.size (inb_out 1), k0_pay36 (slotVec g 1)⟩, ⟨Rect.unit (s := S256x512) ![0, 0] S64x512.size (inb_out 0), k0_pay36 (slotVec g 0)⟩]

theorem outV_at (g : Vec F S4x64x512 .bf16) (i : S256x512.Idx) (j : Fin 4) (y : S64x512.Idx)
    (h0 : (i 0).val = 64 * j.val + (y 0).val) (h1 : (i 1).val = (y 1).val) : outV g i = k0_pay36 (slotVec g j) y := by
  have y0 : (y 0).val < 64 := (y 0).isLt
  have ej : ∀ p, (⟨(i 0).val / 64, p⟩ : Fin 4) = j := fun p => Fin.ext (by show (i 0).val / 64 = j.val; omega)
  have e0 : ∀ p, (⟨(i 0).val % 64, p⟩ : Fin 64) = y 0 := fun p => Fin.ext (by show (i 0).val % 64 = (y 0).val; omega)
  have e1 : (i 1 : Fin 512) = y 1 := Fin.ext h1
  unfold outV
  rw [ej, e0, e1]
  exact congrArg _ (eq_ix2 (n0 := 64) (n1 := 512) y).symm

theorem out_full (g : Vec F S4x64x512 .bf16) (f : Vec F S256x512 .f32) : oM.view.writes (Elt F) f (outPieces g) = outV g := by
  have hp : ∀ (j : Fin 4) (x : S64x512.Idx),
      k0_pay36 (slotVec g j) x = outV g ((Rect.unit (s := S256x512) ![64 * j.val, 0] S64x512.size (inb_out j)).emb x) := fun j x =>
    (outV_at g _ j x (by show 64 * j.val + 1 * (x 0).val = _; omega) (by show 0 + 1 * (x 1).val = _; omega)).symm
  have key : ∀ y, oM.view.read (Elt F) (oM.view.writes (Elt F) f (outPieces g)) y = outV g y := fun y =>
    View.read_writes_apply_of_pieces oM.view f (outV g) (outPieces g)
      (by
        intro p hp'
        simp only [outPieces, List.mem_cons, List.not_mem_nil, or_false] at hp'
        rcases hp' with rfl | rfl | rfl | rfl
        · exact hp 3
        · exact hp 2
        · exact hp 1
        · exact hp 0)
      y (View.cover_of_tiled (outPieces g) ![64, 512] rfl y)
  funext y
  have h3 : ∀ X : Vec F S256x512 .f32, oM.view.read (Elt F) X y = X y := fun _ => rfl
  exact (h3 _).symm.trans (key y)

end Cert.KernelIdeal.Own
-- ==== Proof.KernelIdeal.Open.lean ====
/-
  Opening a device's own transfer counters on entering the kernel, and closing them before leaving it.
-/
module

public import proofs.«01_k».proof.Proof.KernelIdeal.Buffers

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

/-- The fourteen counters, by the peer they serve; the two for arrivals from the device itself come last. -/
theorem sems_ring (c : Dev nD) (Φ : SemLoc sig → sProp 𝕄) : bigSep Finset.univ (fun i : Fin 14 => Φ (osem i))
    = iprop(Φ (.dma (rsS 0)) ∗ Φ (.dma (agS 0)) ∗ Φ (.dma (rsR (pe c 1))) ∗ Φ (.dma (agR (pe c 1)))
      ∗ Φ (.dma (rsS 1)) ∗ Φ (.dma (agS 1)) ∗ Φ (.dma (rsR (pe c 2))) ∗ Φ (.dma (agR (pe c 2)))
      ∗ Φ (.dma (rsS 2)) ∗ Φ (.dma (agS 2)) ∗ Φ (.dma (rsR (pe c 3))) ∗ Φ (.dma (agR (pe c 3)))
      ∗ Φ (.dma (rsR c)) ∗ Φ (.dma (agR c))) := by
  let a : Fin 4 → Fin 14 := fun j => ⟨3 + j.val, by have := j.isLt; omega⟩
  let b : Fin 4 → Fin 14 := fun j => ⟨10 + j.val, by have := j.isLt; omega⟩
  have ea : ∀ j, osem (a j) = .dma (rsR j) := by decide
  have eb : ∀ j, osem (b j) = .dma (agR j) := by decide
  have hl : (Finset.univ : Finset (Fin 14)) = [0, 7, a (pe c 1), b (pe c 1), 1, 8, a (pe c 2), b (pe c 2), 2, 9, a (pe c 3), b (pe c 3), a c, b c].toFinset := by
    revert c; decide
  have hn : [0, 7, a (pe c 1), b (pe c 1), 1, 8, a (pe c 2), b (pe c 2), 2, 9, a (pe c 3), b (pe c 3), a c, b c].Nodup := by revert c; decide
  have h := bigSep_eq_bigSepL_of_eq _ hl hn (fun i : Fin 14 => Φ (osem i))
  rw [h]
  simp only [bigSepL, ea, eb]
  rfl

/-- The counters that serve peer `j`, open. -/
def opened (c : Dev nD) (k : Fin 3) (j : Fin 4) : sProp 𝕄 :=
  iprop((atPos ER (dmaCell c (rsS k)) 0 ∅ 0 ∗ reached ER (dmaCell c (rsS k)) 0)
    ∗ (atPos ER (dmaCell c (agS k)) 0 ∅ 0 ∗ reached ER (dmaCell c (agS k)) 0)
    ∗ (atPos ER (dmaCell c (rsR (pe c j))) 0 ∅ 0 ∗ reached ER (dmaCell c (rsR (pe c j))) 0)
    ∗ (atPos ER (dmaCell c (agR (pe c j))) 0 ∅ 0 ∗ reached ER (dmaCell c (agR (pe c j))) 0))
/-- The same, used up. -/
def used (c : Dev nD) (k : Fin 3) (j : Fin 4) : sProp 𝕄 :=
  iprop(atPos ER (dmaCell c (rsS k)) (0 + 1) ∅ 0 ∗ atPos ER (dmaCell c (agS k)) (0 + 1) ∅ 0
    ∗ atPos ER (dmaCell c (rsR (pe c j))) (0 + 1) ∅ 0 ∗ atPos ER (dmaCell c (agR (pe c j))) (0 + 1) ∅ 0)
/-- The two that nobody raises. -/
def idle (c : Dev nD) : sProp 𝕄 := iprop(semVal (dmaCell c (rsR c)) 0 ∗ semVal (dmaCell c (agR c)) 0)

variable (pb : Dev nD → Vec F S4x64x512 .bf16) (K : GSem nD τ sig → ℕ) (c : Dev nD)

theorem open_peer (k : Fin 3) (j : Fin 4) :
    iprop(invs pb K ∗ (openTok ER (dmaCell c (rsS k)) ∗ openTok ER (dmaCell c (agS k)) ∗ openTok ER (dmaCell c (rsR (pe c j))) ∗ openTok ER (dmaCell c (agR (pe c j))))
        ∗ semVal (dmaCell c (rsS k)) 0 ∗ semVal (dmaCell c (agS k)) 0 ∗ semVal (dmaCell c (rsR (pe c j))) 0 ∗ semVal (dmaCell c (agR (pe c j))) 0)
      ⊢ (|={Set.univ}=> opened c k j : sProp 𝕄) := by
  iintro ⟨#Hinv, ⟨Ho1, Ho2, Ho3, Ho4⟩, Hv1, Hv2, Hv3, Hv4⟩
  imod (cell_open ER (sched pb) (κ := K (dmaCell c (rsS k))) (g := dmaCell c (rsS k)) (Set.mem_univ _)) $$ [Ho1 Hv1] with H1
  · isplitr; · iapply (inv_rsS pb K c k); iexact Hinv
    isplitl [Ho1] <;> iassumption
  imod (cell_open ER (sched pb) (κ := K (dmaCell c (agS k))) (g := dmaCell c (agS k)) (Set.mem_univ _)) $$ [Ho2 Hv2] with H2
  · isplitr; · iapply (inv_agS pb K c k); iexact Hinv
    isplitl [Ho2] <;> iassumption
  imod (cell_open ER (sched pb) (κ := K (dmaCell c (rsR (pe c j)))) (g := dmaCell c (rsR (pe c j))) (Set.mem_univ _)) $$ [Ho3 Hv3] with H3
  · isplitr; · iapply (inv_rsR pb K c (pe c j)); iexact Hinv
    isplitl [Ho3] <;> iassumption
  imod (cell_open ER (sched pb) (κ := K (dmaCell c (agR (pe c j)))) (g := dmaCell c (agR (pe c j))) (Set.mem_univ _)) $$ [Ho4 Hv4] with H4
  · isplitr; · iapply (inv_agR pb K c (pe c j)); iexact Hinv
    isplitl [Ho4] <;> iassumption
  imodintro
  unfold opened
  isplitl [H1]; · iexact H1
  isplitl [H2]; · iexact H2
  isplitl [H3]; · iexact H3
  iexact H4

theorem close_peer (k : Fin 3) (j : Fin 4) :
    iprop(invs pb K ∗ used c k j)
      ⊢ (|={Set.univ}=> (semVal (dmaCell c (rsS k)) 0 ∗ semVal (dmaCell c (agS k)) 0 ∗ semVal (dmaCell c (rsR (pe c j))) 0 ∗ semVal (dmaCell c (agR (pe c j))) 0) : sProp 𝕄) := by
  unfold used
  iintro ⟨#Hinv, H1, H2, H3, H4⟩
  imod (close_at pb (K (dmaCell c (rsS k))) (dmaCell c (rsS k))) $$ [H1] with H1
  · isplitr; · iapply (inv_rsS pb K c k); iexact Hinv
    iexact H1
  imod (close_at pb (K (dmaCell c (agS k))) (dmaCell c (agS k))) $$ [H2] with H2
  · isplitr; · iapply (inv_agS pb K c k); iexact Hinv
    iexact H2
  imod (close_at pb (K (dmaCell c (rsR (pe c j)))) (dmaCell c (rsR (pe c j)))) $$ [H3] with H3
  · isplitr; · iapply (inv_rsR pb K c (pe c j)); iexact Hinv
    iexact H3
  imod (close_at pb (K (dmaCell c (agR (pe c j)))) (dmaCell c (agR (pe c j)))) $$ [H4] with H4
  · isplitr; · iapply (inv_agR pb K c (pe c j)); iexact Hinv
    iexact H4
  imodintro
  isplitl [H1]; · iexact H1
  isplitl [H2]; · iexact H2
  isplitl [H3]; · iexact H3
  iexact H4

theorem open_all :
    iprop(invs pb K ∗ bigSep Finset.univ (fun i : Fin 14 => openTok ER (scopedCell (c, i))) ∗ bigSep Finset.univ (fun i : Fin 14 => semVal (scopedCell (c, i)) 0))
      ⊢ (|={Set.univ}=> (opened c 0 1 ∗ opened c 1 2 ∗ opened c 2 3 ∗ idle c) : sProp 𝕄) := by
  have e1 := sems_ring c (fun s => (openTok ER ((c : Thread nD τ), s) : sProp 𝕄))
  have e2 := sems_ring c (fun s => (semVal ((c : Thread nD τ), s) 0 : sProp 𝕄))
  rw [e1, e2]
  iintro ⟨#Hinv, ⟨Ha1, Ha2, Ha3, Ha4, Hb1, Hb2, Hb3, Hb4, Hc1, Hc2, Hc3, Hc4, -, -⟩, Hd1, Hd2, Hd3, Hd4, He1, He2, He3, He4, Hf1, Hf2, Hf3, Hf4, Hi1, Hi2⟩
  imod (open_peer pb K c 0 1) $$ [Ha1 Ha2 Ha3 Ha4 Hd1 Hd2 Hd3 Hd4] with H0
  · iframe Hinv Ha1 Ha2 Ha3 Ha4 Hd1 Hd2 Hd3 Hd4
  imod (open_peer pb K c 1 2) $$ [Hb1 Hb2 Hb3 Hb4 He1 He2 He3 He4] with H1
  · iframe Hinv Hb1 Hb2 Hb3 Hb4 He1 He2 He3 He4
  imod (open_peer pb K c 2 3) $$ [Hc1 Hc2 Hc3 Hc4 Hf1 Hf2 Hf3 Hf4] with H2
  · iframe Hinv Hc1 Hc2 Hc3 Hc4 Hf1 Hf2 Hf3 Hf4
  imodintro
  unfold idle
  isplitl [H0]; · iexact H0
  isplitl [H1]; · iexact H1
  isplitl [H2]; · iexact H2
  isplitl [Hi1]; · iexact Hi1
  iexact Hi2

theorem close_all :
    iprop(invs pb K ∗ used c 0 1 ∗ used c 1 2 ∗ used c 2 3 ∗ idle c)
      ⊢ (|={Set.univ}=> bigSep Finset.univ (fun i : Fin 14 => semVal (scopedCell (c, i)) 0) : sProp 𝕄) := by
  have e2 := sems_ring c (fun s => (semVal ((c : Thread nD τ), s) 0 : sProp 𝕄))
  rw [e2]
  unfold idle
  iintro ⟨#Hinv, H0, H1, H2, Hi1, Hi2⟩
  imod (close_peer pb K c 0 1) $$ [H0] with ⟨Hd1, Hd2, Hd3, Hd4⟩
  · isplitr; · iexact Hinv
    iexact H0
  imod (close_peer pb K c 1 2) $$ [H1] with ⟨He1, He2, He3, He4⟩
  · isplitr; · iexact Hinv
    iexact H1
  imod (close_peer pb K c 2 3) $$ [H2] with ⟨Hf1, Hf2, Hf3, Hf4⟩
  · isplitr; · iexact Hinv
    iexact H2
  imodintro
  isplitl [Hd1]; · iexact Hd1
  isplitl [Hd2]; · iexact Hd2
  isplitl [Hd3]; · iexact Hd3
  isplitl [Hd4]; · iexact Hd4
  isplitl [He1]; · iexact He1
  isplitl [He2]; · iexact He2
  isplitl [He3]; · iexact He3
  isplitl [He4]; · iexact He4
  isplitl [Hf1]; · iexact Hf1
  isplitl [Hf2]; · iexact Hf2
  isplitl [Hf3]; · iexact Hf3
  isplitl [Hf4]; · iexact Hf4
  isplitl [Hi1]; · iexact Hi1
  iexact Hi2

end Cert.KernelIdeal.Own
-- ==== Proof.KernelIdeal.Body.lean ====
/-
  One device's run of the kernel: the entry barrier, the attention and its projection, the reduction and the gathering.
-/
module

public import proofs.«01_k».proof.Proof.KernelIdeal.Open

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

/-- The operands, staged. -/
def staged (c : Dev nD) (o : Ops F) : sProp 𝕄 :=
  iprop(((c : Thread nD τ).loc cc0_stg0_0 ↦{fullShare} o.x) ∗ ((c : Thread nD τ).loc cc0_stg1_0 ↦{fullShare} o.wq)
    ∗ ((c : Thread nD τ).loc cc0_stg2_0 ↦{fullShare} o.wk) ∗ ((c : Thread nD τ).loc cc0_stg3_0 ↦{fullShare} o.wv)
    ∗ ((c : Thread nD τ).loc cc0_stg4_0 ↦{fullShare} o.wo) ∗ ((c : Thread nD τ).loc cc0_stg5_0 ↦{fullShare} o.cs)
    ∗ ((c : Thread nD τ).loc cc0_stg6_0 ↦{fullShare} o.sn) ∗ ((c : Thread nD τ).loc cc0_stg7_0 ↦{fullShare} o.sw))
/-- The four scratch buffers, at contents not chosen. -/
def scratch (c : Dev nD) : sProp 𝕄 :=
  iprop((∃ f, (c : Thread nD τ).loc cc0_scratch0 ↦{fullShare} f) ∗ (∃ f, pBuf c fullShare f) ∗ (∃ f, rBuf c fullShare f) ∗ (∃ f, gBuf c fullShare f))

/-- What a device holds on entering the kernel. -/
def bodyPre (pb : Dev nD → Vec F S4x64x512 .bf16) (K : GSem nD τ sig → ℕ) (c : Dev nD) (W : Waits sig Unit) (o : Ops F) : sProp 𝕄 :=
  iprop(ghost pb K c ∗ creds c ∗ levAts L lv ∗ bigSep Finset.univ (fun i : Fin 14 => semVal (scopedCell (c, i)) 0) ∗ scratch c
    ∗ staged c o ∗ (∃ f, (c : Thread nD τ).loc cc0_stg8_0 ↦{fullShare} f) ∗ owes (c : Thread nD τ) (O₀ c) W)
/-- What it holds on leaving. -/
def bodyPost (pb : Dev nD → Vec F S4x64x512 .bf16) (c : Dev nD) (o : Ops F) : sProp 𝕄 :=
  iprop(semVal (barCell c) 0 ∗ bigSep Finset.univ (fun i : Fin 14 => semVal (scopedCell (c, i)) 0) ∗ scratch c
    ∗ staged c o ∗ ((c : Thread nD τ).loc cc0_stg8_0 ↦{fullShare} outV (gathV pb)) ∗ ∃ W, owes (c : Thread nD τ) 0 W)

section Names
variable (o : Ops F)
theorem q_name : k0_pay8 (k0_pay5 o.x o.wq o.sw) (k0_pay6 o.x o.wq o.cs) (k0_pay7 o.sn) = qRot o := rfl
theorem k_name : k0_pay9 (k0_pay3 o.x o.wk) o.sw o.cs o.sn = kRot o := rfl
theorem v_name : k0_pay10 (k0_pay4 o.x o.wv) = vPro o := rfl
theorem quarter_0 : k0_pay30 (ctxV o) o.wo = quarter o 0 := rfl
theorem quarter_1 : k0_pay31 (ctxV o) o.wo = quarter o 1 := rfl
theorem quarter_2 : k0_pay32 (ctxV o) o.wo = quarter o 2 := rfl
theorem quarter_3 : k0_pay33 (ctxV o) o.wo = quarter o 3 := rfl
theorem row_1 (w : Vec F S1x64x512 .bf16) : k0_pay37 w = k0_pay36 w := rfl
theorem row_2 (w : Vec F S1x64x512 .bf16) : k0_pay38 w = k0_pay36 w := rfl
theorem row_3 (w : Vec F S1x64x512 .bf16) : k0_pay39 w = k0_pay36 w := rfl
end Names

theorem zero2 : (![0, 0] : Fin 2 → ℕ) = fun _ => 0 := by decide
theorem word1 : (1#32 : BitVec 32).toInt = ((1 : ℕ) : ℤ) := by decide
theorem word3 : (3#32 : BitVec 32).toInt = ((3 : ℕ) : ℤ) := by decide

theorem gath_own (pb : Dev nD → Vec F S4x64x512 .bf16) (c : Dev nD) : slotVec (gathV pb) c = sumV pb c := by
  funext x
  have e : ix3 (n0 := 1) (n1 := 64) (n2 := 512) 0 (x 1) (x 2) = x := by
    refine Eq.trans ?_ (eq_ix3 (n0 := 1) (n1 := 64) (n2 := 512) x).symm
    exact congrArg (fun z => ix3 (n0 := 1) (n1 := 64) (n2 := 512) z (x 1) (x 2)) (Subsingleton.elim _ _)
  exact congrArg (sumV pb c) e

/-- The partial product, stored, slot by slot. -/
theorem stored_p (pb : Dev nD → Vec F S4x64x512 .bf16) (c : Dev nD) (o : Ops F) (hpb : partV o = pb c) (f : Vec F S4x64x512 .bf16) :
    (pM.view.loc (c : Thread nD τ) ↦{fullShare} pM.view.writes (Elt F) f (partPieces o) : sProp 𝕄)
      = iprop(pSlot c c fullShare (pb c) ∗ pSlot c (pe c 1) fullShare (pb c) ∗ pSlot c (pe c 2) fullShare (pb c) ∗ pSlot c (pe c 3) fullShare (pb c)) :=
  (congrArg (pBuf c fullShare) ((part_full o f).trans hpb)).trans (pBuf_slots c fullShare (pb c))

/-- The own slot of the gather buffer: a share kept, and one for each transfer. -/
theorem own_split (c : Dev nD) (f : Vec F S4x64x512 .bf16) :
    (gSlot c c fullShare f : sProp 𝕄) ⊢ iprop(gSlot c c fullShare.left f ∗ gSlot c c (agShare 0) f ∗ gSlot c c (agShare 1) f ∗ gSlot c c (agShare 2) f) := by
  iintro H
  ihave H := (gSlot_halves c c fullShare f).1 $$ H
  icases H with ⟨Ha, H⟩
  ihave H := (gSlot_halves c c fullShare.right f).1 $$ H
  icases H with ⟨Hb, H⟩
  ihave H := (gSlot_halves c c fullShare.right.right f).1 $$ H
  icases H with ⟨Hc, Hd⟩
  isplitl [Ha]; · iexact Ha
  isplitl [Hb]; · iexact Hb
  isplitl [Hc]; · iexact Hc
  iexact Hd
theorem own_join (c : Dev nD) (f : Vec F S4x64x512 .bf16) :
    (iprop(gSlot c c fullShare.left f ∗ gSlot c c (agShare 0) f ∗ gSlot c c (agShare 1) f ∗ gSlot c c (agShare 2) f) : sProp 𝕄) ⊢ gSlot c c fullShare f := by
  iintro ⟨Ha, Hb, Hc, Hd⟩
  iapply (gSlot_halves c c fullShare f).2
  isplitl [Ha]; · iexact Ha
  iapply (gSlot_halves c c fullShare.right f).2
  isplitl [Hb]; · iexact Hb
  iapply (gSlot_halves c c fullShare.right.right f).2
  isplitl [Hc]; · iexact Hc
  iexact Hd

set_option maxHeartbeats 4000000 in
set_option maxRecDepth 20000 in
/-- The run: the result's buffer ends at the gathered sums. -/
theorem run (pb : Dev nD → Vec F S4x64x512 .bf16) (K : GSem nD τ sig → ℕ) (c : Dev nD) (W : Waits sig Unit) (o : Ops F) (hpb : partV o = pb c) (t : Fin grid0.N) (Kt : PUnit → sProp 𝕄) :
    iprop(bodyPre pb K c W o ∗ (bodyPost pb c o -∗ Kt ⟨⟩))
      ⊢ wp frame (wpE (defs₀ (F := F)) 𝒱₀ (c : Thread nD τ) none) Set.univ (bodyAt0 t) Kt := by
  unfold bodyAt0
  simp only [cc0_body_eq_skeleton]
  unfold cc0_body_skel
  simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
  unfold k0_part1_skel k0_part2_skel k0_part3_skel k0_part4_skel k0_part5_skel k0_part6_skel k0_part7_skel k0_part8_skel k0_part9_skel k0_part10_skel k0_part11_skel k0_part12_skel k0_part13_skel k0_part14_skel k0_part15_skel k0_part16_skel k0_part17_skel
  simp only [semSignalWord, semWaitWord, Prog.lift, Prog.bind_op, Prog.bind_ret, Prog.pure_eq_ret, Prog.bind_assoc, wp_deviceId, dev1_eq, dev2_eq, dev3_eq, dev4_eq, dev5_eq, dev6_eq, dev7_eq, dev8_eq, dev9_eq, barS_eq, word1, word3,
    slot_of_off (k0_off2_eq c), slot_of_off (off3_1 c), slot_of_off (off3_2 c), slot_of_off (off3_3 c),
    rsR_of_off (k0_off1_eq c), rsR_of_off (off4_1 c), rsR_of_off (off4_2 c), rsR_of_off (off4_3 c),
    agR_of_off (k0_off1_eq c), agR_of_off (off4_1 c), agR_of_off (off4_2 c), agR_of_off (off4_3 c),
    rsS_of_off (i := 0) (off := ![0]) rfl, rsS_of_off (i := 1) (off := ![1]) rfl, rsS_of_off (i := 2) (off := ![2]) rfl,
    agS_of_off (i := 0) (off := ![0]) rfl, agS_of_off (i := 1) (off := ![1]) rfl, agS_of_off (i := 2) (off := ![2]) rfl]
  unfold bodyPre ghost creds scratch staged O₀ owedR owedG
  rw [toks_eq c 0 (j := 1) rfl, toks_eq c 1 (j := 2) rfl, toks_eq c 2 (j := 3) rfl]
  iintro ⟨⟨⟨#Hinv, HatB, Hop, ⟨TB1, TR1, TG1, TS1, TH1⟩, ⟨TB2, TR2, TG2, TS2, TH2⟩, ⟨TB3, TR3, TG3, TS3, TH3⟩⟩, ⟨CB, ⟨CR1, CR2, CR3⟩, CG1, CG2, CG3⟩, #Hlev, Hsv, ⟨⟨%fc, Hc⟩, ⟨%fp, Hp⟩, ⟨%fr, Hr⟩, ⟨%fg, Hg⟩⟩, ⟨Hx, Hwq, Hwk, Hwv, Hwo, Hcs, Hsn, Hsw⟩, ⟨%fo, Ho⟩, HO⟩, Hpost⟩
  imod (open_all pb K c) $$ [Hop Hsv] with ⟨Hop1, Hop2, Hop3, Hidle⟩
  · isplitr; · iexact Hinv
    isplitl [Hop] <;> iassumption
  unfold opened
  icases Hop1 with ⟨⟨AS1, #RS1⟩, ⟨AH1, #RH1⟩, ⟨AR1, #RR1⟩, ⟨AG1, #RG1⟩⟩
  icases Hop2 with ⟨⟨AS2, #RS2⟩, ⟨AH2, #RH2⟩, ⟨AR2, #RR2⟩, ⟨AG2, #RG2⟩⟩
  icases Hop3 with ⟨⟨AS3, #RS3⟩, ⟨AH3, #RH3⟩, ⟨AR3, #RR3⟩, ⟨AG3, #RG3⟩⟩
  ihave Hr := (Entails.of_eq (rBuf_slots c fullShare fr)) $$ Hr
  icases Hr with ⟨Hr0, Hr1, Hr2, Hr3⟩
  ihave Hg := (Entails.of_eq (gBuf_slots c fullShare fg)) $$ Hg
  icases Hg with ⟨Hg0, Hg1, Hg2, Hg3⟩
  iapply (step_signal pb K c W 0 (j := 1) rfl _ _ Kt) $$ [HO TB1 Hr1 Hg1]
  · isplitr; · iexact Hinv
    isplitl [HO]; · iexact HO
    isplitl [TB1]; · iexact TB1
    isplitl [Hr1]; · iexists fr; iexact Hr1
    isplitl [Hg1]; · iexists fg; iexact Hg1
    isplitr; · iexact RR1
    iexact RG1
  iintro HO
  iapply (step_signal pb K c W 1 (j := 2) rfl _ _ Kt) $$ [HO TB2 Hr2 Hg2]
  · isplitr; · iexact Hinv
    isplitl [HO]; · iexact HO
    isplitl [TB2]; · iexact TB2
    isplitl [Hr2]; · iexists fr; iexact Hr2
    isplitl [Hg2]; · iexists fg; iexact Hg2
    isplitr; · iexact RR2
    iexact RG2
  iintro HO
  iapply (step_signal pb K c W 2 (j := 3) rfl _ _ Kt) $$ [HO TB3 Hr3 Hg3]
  · isplitr; · iexact Hinv
    isplitl [HO]; · iexact HO
    isplitl [TB3]; · iexact TB3
    isplitl [Hr3]; · iexists fr; iexact Hr3
    isplitl [Hg3]; · iexists fg; iexact Hg3
    isplitr; · iexact RR3
    iexact RG3
  iintro HO
  iapply (step_entries pb K c W _ (later_owedR 1 (by decide) c) _ Kt) $$ [CB HO HatB]
  · isplitr; · iexact Hinv
    isplitr; · iexact Hlev
    isplitl [CB]; · iexact CB
    isplitl [HO]; · iexact HO
    iexact HatB
  unfold barPay
  iintro ⟨HO, HatB, ⟨⟨%fr1, Pr1⟩, ⟨%fg1, Pg1⟩, #QR1, #QG1⟩, ⟨⟨%fr2, Pr2⟩, ⟨%fg2, Pg2⟩, #QR2, #QG2⟩, ⟨⟨%fr3, Pr3⟩, ⟨%fg3, Pg3⟩, #QR3, #QG3⟩⟩
  iapply (step_load c (m := Memref.whole cc0_stg0_0) (r := Rect.unit ![0, 0] S256x512.size inb_S256x512_S256x512_0_0) (q := fullShare) (S := Finset.univ) (f := o.x) (v := o.x) (Memref.readAt_unit_zero (Elt F) cc0_stg0_0 zero2 _ o.x) (Finset.subset_univ _) _ Kt) $$ Hx
  iintro Hx
  iapply (step_load c (m := Memref.whole cc0_stg1_0) (r := Rect.unit ![0, 0] S512x256.size inb_S512x256_S512x256_0_0) (q := fullShare) (S := Finset.univ) (f := o.wq) (v := o.wq) (Memref.readAt_unit_zero (Elt F) cc0_stg1_0 zero2 _ o.wq) (Finset.subset_univ _) _ Kt) $$ Hwq
  iintro Hwq
  iapply (step_load c (m := Memref.whole cc0_stg2_0) (r := Rect.unit ![0, 0] S512x256.size inb_S512x256_S512x256_0_0) (q := fullShare) (S := Finset.univ) (f := o.wk) (v := o.wk) (Memref.readAt_unit_zero (Elt F) cc0_stg2_0 zero2 _ o.wk) (Finset.subset_univ _) _ Kt) $$ Hwk
  iintro Hwk
  iapply (step_load c (m := Memref.whole cc0_stg3_0) (r := Rect.unit ![0, 0] S512x256.size inb_S512x256_S512x256_0_0) (q := fullShare) (S := Finset.univ) (f := o.wv) (v := o.wv) (Memref.readAt_unit_zero (Elt F) cc0_stg3_0 zero2 _ o.wv) (Finset.subset_univ _) _ Kt) $$ Hwv
  iintro Hwv
  iapply (step_load c (m := Memref.whole cc0_stg7_0) (r := Rect.unit ![0, 0] S256x256.size inb_S256x256_S256x256_0_0) (q := fullShare) (S := Finset.univ) (f := o.sw) (v := o.sw) (Memref.readAt_unit_zero (Elt F) cc0_stg7_0 zero2 _ o.sw) (Finset.subset_univ _) _ Kt) $$ Hsw
  iintro Hsw
  iapply (step_load c (m := Memref.whole cc0_stg5_0) (r := Rect.unit ![0, 0] S256x256.size inb_S256x256_S256x256_0_0) (q := fullShare) (S := Finset.univ) (f := o.cs) (v := o.cs) (Memref.readAt_unit_zero (Elt F) cc0_stg5_0 zero2 _ o.cs) (Finset.subset_univ _) _ Kt) $$ Hcs
  iintro Hcs
  iapply (step_load c (m := Memref.whole cc0_stg6_0) (r := Rect.unit ![0, 0] S256x256.size inb_S256x256_S256x256_0_0) (q := fullShare) (S := Finset.univ) (f := o.sn) (v := o.sn) (Memref.readAt_unit_zero (Elt F) cc0_stg6_0 zero2 _ o.sn) (Finset.subset_univ _) _ Kt) $$ Hsn
  iintro Hsn
  iapply (step_load c (m := Memref.whole cc0_stg7_0) (r := Rect.unit ![0, 0] S256x256.size inb_S256x256_S256x256_0_0) (q := fullShare) (S := Finset.univ) (f := o.sw) (v := o.sw) (Memref.readAt_unit_zero (Elt F) cc0_stg7_0 zero2 _ o.sw) (Finset.subset_univ _) _ Kt) $$ Hsw
  iintro Hsw
  iapply (step_load c (m := Memref.whole cc0_stg5_0) (r := Rect.unit ![0, 0] S256x256.size inb_S256x256_S256x256_0_0) (q := fullShare) (S := Finset.univ) (f := o.cs) (v := o.cs) (Memref.readAt_unit_zero (Elt F) cc0_stg5_0 zero2 _ o.cs) (Finset.subset_univ _) _ Kt) $$ Hcs
  iintro Hcs
  iapply (step_load c (m := Memref.whole cc0_stg6_0) (r := Rect.unit ![0, 0] S256x256.size inb_S256x256_S256x256_0_0) (q := fullShare) (S := Finset.univ) (f := o.sn) (v := o.sn) (Memref.readAt_unit_zero (Elt F) cc0_stg6_0 zero2 _ o.sn) (Finset.subset_univ _) _ Kt) $$ Hsn
  iintro Hsn
  simp only [q_name, k_name, v_name, head00, head01, head02, head03, head10, head11, head12, head13]
  iapply (step_store₀ c (m := Memref.whole cc0_scratch0) (r := Rect.unit ![0, 0] S128x64.size inb_S256x256_S128x64_0_0) (w := headOut o 0 0) (S := Finset.univ) (f := fc) (Finset.subset_univ _) _ Kt) $$ Hc
  iintro Hc
  iapply (step_store c (m := Memref.whole cc0_scratch0) (r := Rect.unit ![0, 64] S128x64.size inb_S256x256_S128x64_0_64) (w := headOut o 0 1) (S := Finset.univ) (f := fc) (Finset.subset_univ _) _ Kt) $$ Hc
  iintro Hc
  iapply (step_store c (m := Memref.whole cc0_scratch0) (r := Rect.unit ![0, 128] S128x64.size inb_S256x256_S128x64_0_128) (w := headOut o 0 2) (S := Finset.univ) (f := fc) (Finset.subset_univ _) _ Kt) $$ Hc
  iintro Hc
  iapply (step_store c (m := Memref.whole cc0_scratch0) (r := Rect.unit ![0, 192] S128x64.size inb_S256x256_S128x64_0_192) (w := headOut o 0 3) (S := Finset.univ) (f := fc) (Finset.subset_univ _) _ Kt) $$ Hc
  iintro Hc
  iapply (step_store c (m := Memref.whole cc0_scratch0) (r := Rect.unit ![128, 0] S128x64.size inb_S256x256_S128x64_128_0) (w := headOut o 1 0) (S := Finset.univ) (f := fc) (Finset.subset_univ _) _ Kt) $$ Hc
  iintro Hc
  iapply (step_store c (m := Memref.whole cc0_scratch0) (r := Rect.unit ![128, 64] S128x64.size inb_S256x256_S128x64_128_64) (w := headOut o 1 1) (S := Finset.univ) (f := fc) (Finset.subset_univ _) _ Kt) $$ Hc
  iintro Hc
  iapply (step_store c (m := Memref.whole cc0_scratch0) (r := Rect.unit ![128, 128] S128x64.size inb_S256x256_S128x64_128_128) (w := headOut o 1 2) (S := Finset.univ) (f := fc) (Finset.subset_univ _) _ Kt) $$ Hc
  iintro Hc
  iapply (step_store c (m := Memref.whole cc0_scratch0) (r := Rect.unit ![128, 192] S128x64.size inb_S256x256_S128x64_128_192) (w := headOut o 1 3) (S := Finset.univ) (f := fc) (Finset.subset_univ _) _ Kt) $$ Hc
  iintro Hc
  iapply (step_load c (m := Memref.whole cc0_scratch0) (r := Rect.unit ![0, 0] S256x256.size inb_S256x256_S256x256_0_0) (q := fullShare) (S := Finset.univ) (f := cM.view.writes (Elt F) fc (ctxPieces o)) (v := ctxV o) ((Memref.readAt_unit_zero (Elt F) cc0_scratch0 zero2 _ _).trans (ctx_full o fc)) (Finset.subset_univ _) _ Kt) $$ Hc
  iintro Hc
  iapply (step_load c (m := Memref.whole cc0_stg4_0) (r := Rect.unit ![0, 0] S256x512.size inb_S256x512_S256x512_0_0) (q := fullShare) (S := Finset.univ) (f := o.wo) (v := o.wo) (Memref.readAt_unit_zero (Elt F) cc0_stg4_0 zero2 _ o.wo) (Finset.subset_univ _) _ Kt) $$ Hwo
  iintro Hwo
  simp only [quarter_0, quarter_1, quarter_2, quarter_3]
  unfold pBuf
  iapply (step_store₀ c (m := Memref.whole cc0_scratch1) (r := Rect.unit ![0, 0, 0] S1x64x512.size inb_S4x64x512_S1x64x512_0_0_0) (w := quarter o 0) (S := Finset.univ) (f := fp) (Finset.subset_univ _) _ Kt) $$ Hp
  iintro Hp
  iapply (step_store c (m := Memref.whole cc0_scratch1) (r := Rect.unit ![1, 0, 0] S1x64x512.size inb_S4x64x512_S1x64x512_1_0_0) (w := quarter o 1) (S := Finset.univ) (f := fp) (Finset.subset_univ _) _ Kt) $$ Hp
  iintro Hp
  iapply (step_store c (m := Memref.whole cc0_scratch1) (r := Rect.unit ![2, 0, 0] S1x64x512.size inb_S4x64x512_S1x64x512_2_0_0) (w := quarter o 2) (S := Finset.univ) (f := fp) (Finset.subset_univ _) _ Kt) $$ Hp
  iintro Hp
  iapply (step_store c (m := Memref.whole cc0_scratch1) (r := Rect.unit ![3, 0, 0] S1x64x512.size inb_S4x64x512_S1x64x512_3_0_0) (w := quarter o 3) (S := Finset.univ) (f := fp) (Finset.subset_univ _) _ Kt) $$ Hp
  iintro Hp
  ihave Hp := (Entails.of_eq (stored_p pb c o hpb fp)) $$ Hp
  icases Hp with ⟨Hp0, Hp1, Hp2, Hp3⟩
  iapply (step_sendR pb K c _ 0 (j := 1) rfl (dev4_eq c _) _ fr1 _ Kt) $$ [HO Hp1 Pr1 TS1 TR1]
  · isplitr; · iexact Hinv
    isplitl [Hp1]; · iexact Hp1
    isplitl [Pr1]; · iexact Pr1
    isplitl [HO]; · iexact HO
    isplitl [TS1]; · iexact TS1
    isplitr; · iexact RS1
    isplitl [TR1]; · iexact TR1
    iexact QR1
  iintro ⟨CS1, HO⟩
  iapply (step_sendR pb K c _ 1 (j := 2) rfl (dev5_eq c _) _ fr2 _ Kt) $$ [HO Hp2 Pr2 TS2 TR2]
  · isplitr; · iexact Hinv
    isplitl [Hp2]; · iexact Hp2
    isplitl [Pr2]; · iexact Pr2
    isplitl [HO]; · iexact HO
    isplitl [TS2]; · iexact TS2
    isplitr; · iexact RS2
    isplitl [TR2]; · iexact TR2
    iexact QR2
  iintro ⟨CS2, HO⟩
  iapply (step_sendR pb K c _ 2 (j := 3) rfl (dev6_eq c _) _ fr3 _ Kt) $$ [HO Hp3 Pr3 TS3 TR3]
  · isplitr; · iexact Hinv
    isplitl [Hp3]; · iexact Hp3
    isplitl [Pr3]; · iexact Pr3
    isplitl [HO]; · iexact HO
    isplitl [TS3]; · iexact TS3
    isplitr; · iexact RS3
    isplitl [TR3]; · iexact TR3
    iexact QR3
  iintro ⟨CS3, HO⟩
  iapply (step_wait pb c _ (rsR (pe c 1)) (K (dmaCell c (rsR (pe c 1)))) (duty_rsR c _ (pe_ne c 1 (by decide))) _ (mayWait c (.dma (rsR (pe c 1))) _ (by rw [lv_rsR]; exact later_owedG 2 (by decide) c)) (credit_r (pe c 1)) _ Kt) $$ [CR1 HO AR1]
  · isplitr; · iapply (inv_rsR pb K c (pe c 1)); iexact Hinv
    isplitr; · iexact Hlev
    isplitl [CR1]; · iexact CR1
    isplitl [HO]; · iexact HO
    iexact AR1
  iintro ⟨⟨%W, HO⟩, AR1, Hr1⟩
  ihave Hr1 := (Entails.of_eq (show (sched pb).payload (dmaCell c (rsR (pe c 1))) 0 0 = rSlot c (pe c 1) fullShare (recvV pb c) from payload_rsR pb c (pe c 1) 0)) $$ Hr1
  iapply (step_wait pb c _ (rsR (pe c 2)) (K (dmaCell c (rsR (pe c 2)))) (duty_rsR c _ (pe_ne c 2 (by decide))) _ (mayWait c (.dma (rsR (pe c 2))) _ (by rw [lv_rsR]; exact later_owedG 2 (by decide) c)) (credit_r (pe c 2)) _ Kt) $$ [CR2 HO AR2]
  · isplitr; · iapply (inv_rsR pb K c (pe c 2)); iexact Hinv
    isplitr; · iexact Hlev
    isplitl [CR2]; · iexact CR2
    isplitl [HO]; · iexact HO
    iexact AR2
  iintro ⟨⟨%W, HO⟩, AR2, Hr2⟩
  ihave Hr2 := (Entails.of_eq (show (sched pb).payload (dmaCell c (rsR (pe c 2))) 0 0 = rSlot c (pe c 2) fullShare (recvV pb c) from payload_rsR pb c (pe c 2) 0)) $$ Hr2
  iapply (step_wait pb c _ (rsR (pe c 3)) (K (dmaCell c (rsR (pe c 3)))) (duty_rsR c _ (pe_ne c 3 (by decide))) _ (mayWait c (.dma (rsR (pe c 3))) _ (by rw [lv_rsR]; exact later_owedG 2 (by decide) c)) (credit_r (pe c 3)) _ Kt) $$ [CR3 HO AR3]
  · isplitr; · iapply (inv_rsR pb K c (pe c 3)); iexact Hinv
    isplitr; · iexact Hlev
    isplitl [CR3]; · iexact CR3
    isplitl [HO]; · iexact HO
    iexact AR3
  iintro ⟨⟨%W, HO⟩, AR3, Hr3⟩
  ihave Hr3 := (Entails.of_eq (show (sched pb).payload (dmaCell c (rsR (pe c 3))) 0 0 = rSlot c (pe c 3) fullShare (recvV pb c) from payload_rsR pb c (pe c 3) 0)) $$ Hr3
  iapply (step_load_p c c (k0_off5_eq c) _ Kt) $$ Hp0
  iintro Hp0
  iapply (step_load_r c (pe c 1) (off6_1 c) _ Kt) $$ Hr1
  iintro Hr1
  iapply (step_load_r c (pe c 2) (off6_2 c) _ Kt) $$ Hr2
  iintro Hr2
  iapply (step_load_r c (pe c 3) (off6_3 c) _ Kt) $$ Hr3
  iintro Hr3
  iapply (step_store_g c c (k0_off5_eq c) (gathV pb) (gath_own pb c) _ Kt) $$ Hg0
  iintro Hg0
  ihave Hg0 := (own_split c (gathV pb)) $$ Hg0
  icases Hg0 with ⟨Hg0, Hs1, Hs2, Hs3⟩
  iapply (step_sendG pb K c _ 0 (j := 1) rfl (dev7_eq c _) _ fg1 _ Kt) $$ [HO Hs1 Pg1 TH1 TG1]
  · isplitr; · iexact Hinv
    isplitl [Hs1]; · iexact Hs1
    isplitl [Pg1]; · iexact Pg1
    isplitl [HO]; · iexact HO
    isplitl [TH1]; · iexact TH1
    isplitr; · iexact RH1
    isplitl [TG1]; · iexact TG1
    iexact QG1
  iintro ⟨CH1, HO⟩
  iapply (step_sendG pb K c _ 1 (j := 2) rfl (dev8_eq c _) _ fg2 _ Kt) $$ [HO Hs2 Pg2 TH2 TG2]
  · isplitr; · iexact Hinv
    isplitl [Hs2]; · iexact Hs2
    isplitl [Pg2]; · iexact Pg2
    isplitl [HO]; · iexact HO
    isplitl [TH2]; · iexact TH2
    isplitr; · iexact RH2
    isplitl [TG2]; · iexact TG2
    iexact QG2
  iintro ⟨CH2, HO⟩
  iapply (step_sendG pb K c _ 2 (j := 3) rfl (dev9_eq c _) _ fg3 _ Kt) $$ [HO Hs3 Pg3 TH3 TG3]
  · isplitr; · iexact Hinv
    isplitl [Hs3]; · iexact Hs3
    isplitl [Pg3]; · iexact Pg3
    isplitl [HO]; · iexact HO
    isplitl [TH3]; · iexact TH3
    isplitr; · iexact RH3
    isplitl [TG3]; · iexact TG3
    iexact QG3
  iintro ⟨CH3, HO⟩
  iapply (step_wait pb c _ (agR (pe c 1)) (K (dmaCell c (agR (pe c 1)))) (duty_agR c _ (pe_ne c 1 (by decide))) _ (mayWait c (.dma (agR (pe c 1))) _ (later_zero _)) (credit_g (pe c 1)) _ Kt) $$ [CG1 HO AG1]
  · isplitr; · iapply (inv_agR pb K c (pe c 1)); iexact Hinv
    isplitr; · iexact Hlev
    isplitl [CG1]; · iexact CG1
    isplitl [HO]; · iexact HO
    iexact AG1
  iintro ⟨⟨%W, HO⟩, AG1, Hg1⟩
  ihave Hg1 := (Entails.of_eq (show (sched pb).payload (dmaCell c (agR (pe c 1))) 0 0 = gSlot c (pe c 1) fullShare (gathV pb) from payload_agR pb c (pe c 1) 0)) $$ Hg1
  ihave Hg1 := (gSlot_halves c (pe c 1) fullShare (gathV pb)).1 $$ Hg1
  icases Hg1 with ⟨Hg1, Hh1⟩
  iapply (step_wait pb c _ (agR (pe c 2)) (K (dmaCell c (agR (pe c 2)))) (duty_agR c _ (pe_ne c 2 (by decide))) _ (mayWait c (.dma (agR (pe c 2))) _ (later_zero _)) (credit_g (pe c 2)) _ Kt) $$ [CG2 HO AG2]
  · isplitr; · iapply (inv_agR pb K c (pe c 2)); iexact Hinv
    isplitr; · iexact Hlev
    isplitl [CG2]; · iexact CG2
    isplitl [HO]; · iexact HO
    iexact AG2
  iintro ⟨⟨%W, HO⟩, AG2, Hg2⟩
  ihave Hg2 := (Entails.of_eq (show (sched pb).payload (dmaCell c (agR (pe c 2))) 0 0 = gSlot c (pe c 2) fullShare (gathV pb) from payload_agR pb c (pe c 2) 0)) $$ Hg2
  ihave Hg2 := (gSlot_halves c (pe c 2) fullShare (gathV pb)).1 $$ Hg2
  icases Hg2 with ⟨Hg2, Hh2⟩
  iapply (step_wait pb c _ (agR (pe c 3)) (K (dmaCell c (agR (pe c 3)))) (duty_agR c _ (pe_ne c 3 (by decide))) _ (mayWait c (.dma (agR (pe c 3))) _ (later_zero _)) (credit_g (pe c 3)) _ Kt) $$ [CG3 HO AG3]
  · isplitr; · iapply (inv_agR pb K c (pe c 3)); iexact Hinv
    isplitr; · iexact Hlev
    isplitl [CG3]; · iexact CG3
    isplitl [HO]; · iexact HO
    iexact AG3
  iintro ⟨⟨%W, HO⟩, AG3, Hg3⟩
  ihave Hg3 := (Entails.of_eq (show (sched pb).payload (dmaCell c (agR (pe c 3))) 0 0 = gSlot c (pe c 3) fullShare (gathV pb) from payload_agR pb c (pe c 3) 0)) $$ Hg3
  ihave Hg3 := (gSlot_halves c (pe c 3) fullShare (gathV pb)).1 $$ Hg3
  icases Hg3 with ⟨Hg3, Hh3⟩
  ihave Hg := (Entails.of_eq (gBuf_slots c fullShare.left (gathV pb)).symm) $$ [Hg0 Hg1 Hg2 Hg3]
  · isplitl [Hg0]; · iexact Hg0
    isplitl [Hg1]; · iexact Hg1
    isplitl [Hg2]; · iexact Hg2
    iexact Hg3
  iapply (step_load_g c 0 rfl _ Kt) $$ Hg
  iintro Hg
  iapply (step_store₀ c (m := Memref.whole cc0_stg8_0) (r := Rect.unit ![0, 0] S64x512.size inb_S256x512_S64x512_0_0) (w := k0_pay36 (slotVec (gathV pb) 0)) (S := Finset.univ) (f := fo) (Finset.subset_univ _) _ Kt) $$ Ho
  iintro Ho
  iapply (step_load_g c 1 rfl _ Kt) $$ Hg
  iintro Hg
  simp only [row_1, row_2, row_3]
  iapply (step_store c (m := Memref.whole cc0_stg8_0) (r := Rect.unit ![64, 0] S64x512.size inb_S256x512_S64x512_64_0) (w := k0_pay36 (slotVec (gathV pb) 1)) (S := Finset.univ) (f := fo) (Finset.subset_univ _) _ Kt) $$ Ho
  iintro Ho
  iapply (step_load_g c 2 rfl _ Kt) $$ Hg
  iintro Hg
  iapply (step_store c (m := Memref.whole cc0_stg8_0) (r := Rect.unit ![128, 0] S64x512.size inb_S256x512_S64x512_128_0) (w := k0_pay36 (slotVec (gathV pb) 2)) (S := Finset.univ) (f := fo) (Finset.subset_univ _) _ Kt) $$ Ho
  iintro Ho
  iapply (step_load_g c 3 rfl _ Kt) $$ Hg
  iintro Hg
  iapply (step_store c (m := Memref.whole cc0_stg8_0) (r := Rect.unit ![192, 0] S64x512.size inb_S256x512_S64x512_192_0) (w := k0_pay36 (slotVec (gathV pb) 3)) (S := Finset.univ) (f := fo) (Finset.subset_univ _) _ Kt) $$ Ho
  iintro Ho
  ihave Ho := (Entails.of_eq (congrArg (fun f => ((c : Thread nD τ).loc cc0_stg8_0 ↦{fullShare} f : sProp 𝕄)) (out_full (gathV pb) fo))) $$ Ho
  iapply (step_wait pb c _ (rsS 0) (K (dmaCell c (rsS 0))) (duty_rsS c 0) _ (mayWait c (.dma (rsS 0)) _ (later_zero _)) (credit_p (pe c 1)) _ Kt) $$ [CS1 HO AS1]
  · isplitr; · iapply (inv_rsS pb K c 0); iexact Hinv
    isplitr; · iexact Hlev
    isplitl [CS1]; · iexact CS1
    isplitl [HO]; · iexact HO
    iexact AS1
  iintro ⟨⟨%W, HO⟩, AS1, Hp1⟩
  ihave Hp1 := (Entails.of_eq (show (sched pb).payload (dmaCell c (rsS 0)) 0 0 = pSlot c (pe c 1) fullShare (pb c) from payload_rsS pb c 0 0)) $$ Hp1
  iapply (step_wait pb c _ (rsS 1) (K (dmaCell c (rsS 1))) (duty_rsS c 1) _ (mayWait c (.dma (rsS 1)) _ (later_zero _)) (credit_p (pe c 2)) _ Kt) $$ [CS2 HO AS2]
  · isplitr; · iapply (inv_rsS pb K c 1); iexact Hinv
    isplitr; · iexact Hlev
    isplitl [CS2]; · iexact CS2
    isplitl [HO]; · iexact HO
    iexact AS2
  iintro ⟨⟨%W, HO⟩, AS2, Hp2⟩
  ihave Hp2 := (Entails.of_eq (show (sched pb).payload (dmaCell c (rsS 1)) 0 0 = pSlot c (pe c 2) fullShare (pb c) from payload_rsS pb c 1 0)) $$ Hp2
  iapply (step_wait pb c _ (rsS 2) (K (dmaCell c (rsS 2))) (duty_rsS c 2) _ (mayWait c (.dma (rsS 2)) _ (later_zero _)) (credit_p (pe c 3)) _ Kt) $$ [CS3 HO AS3]
  · isplitr; · iapply (inv_rsS pb K c 2); iexact Hinv
    isplitr; · iexact Hlev
    isplitl [CS3]; · iexact CS3
    isplitl [HO]; · iexact HO
    iexact AS3
  iintro ⟨⟨%W, HO⟩, AS3, Hp3⟩
  ihave Hp3 := (Entails.of_eq (show (sched pb).payload (dmaCell c (rsS 2)) 0 0 = pSlot c (pe c 3) fullShare (pb c) from payload_rsS pb c 2 0)) $$ Hp3
  iapply (step_wait pb c _ (agS 0) (K (dmaCell c (agS 0))) (duty_agS c 0) _ (mayWait c (.dma (agS 0)) _ (later_zero _)) (credit_g c) _ Kt) $$ [CH1 HO AH1]
  · isplitr; · iapply (inv_agS pb K c 0); iexact Hinv
    isplitr; · iexact Hlev
    isplitl [CH1]; · iexact CH1
    isplitl [HO]; · iexact HO
    iexact AH1
  iintro ⟨⟨%W, HO⟩, AH1, Hs1⟩
  ihave Hs1 := (Entails.of_eq (show (sched pb).payload (dmaCell c (agS 0)) 0 0 = gSlot c c (agShare 0) (gathV pb) from payload_agS pb c 0 0)) $$ Hs1
  iapply (step_wait pb c _ (agS 1) (K (dmaCell c (agS 1))) (duty_agS c 1) _ (mayWait c (.dma (agS 1)) _ (later_zero _)) (credit_g c) _ Kt) $$ [CH2 HO AH2]
  · isplitr; · iapply (inv_agS pb K c 1); iexact Hinv
    isplitr; · iexact Hlev
    isplitl [CH2]; · iexact CH2
    isplitl [HO]; · iexact HO
    iexact AH2
  iintro ⟨⟨%W, HO⟩, AH2, Hs2⟩
  ihave Hs2 := (Entails.of_eq (show (sched pb).payload (dmaCell c (agS 1)) 0 0 = gSlot c c (agShare 1) (gathV pb) from payload_agS pb c 1 0)) $$ Hs2
  iapply (step_wait pb c _ (agS 2) (K (dmaCell c (agS 2))) (duty_agS c 2) _ (mayWait c (.dma (agS 2)) _ (later_zero _)) (credit_g c) _ Kt) $$ [CH3 HO AH3]
  · isplitr; · iapply (inv_agS pb K c 2); iexact Hinv
    isplitr; · iexact Hlev
    isplitl [CH3]; · iexact CH3
    isplitl [HO]; · iexact HO
    iexact AH3
  iintro ⟨⟨%W, HO⟩, AH3, Hs3⟩
  ihave Hs3 := (Entails.of_eq (show (sched pb).payload (dmaCell c (agS 2)) 0 0 = gSlot c c (agShare 2) (gathV pb) from payload_agS pb c 2 0)) $$ Hs3
  rw [wp_ret]
  ihave Hb := (inv_bar pb K c) $$ [Hinv]
  · iexact Hinv
  icases Hb with ⟨#HIb, -⟩
  imod (close_at pb (K (barCell c)) (barCell c)) $$ [HatB] with HB
  · isplitr; · iexact HIb
    iexact HatB
  imod (close_all pb K c) $$ [AS1 AS2 AS3 AR1 AR2 AR3 AG1 AG2 AG3 AH1 AH2 AH3 Hidle] with Hsv
  · unfold used
    isplitr; · iexact Hinv
    isplitl [AS1 AH1 AR1 AG1]
    · isplitl [AS1]; · iexact AS1
      isplitl [AH1]; · iexact AH1
      isplitl [AR1]; · iexact AR1
      iexact AG1
    isplitl [AS2 AH2 AR2 AG2]
    · isplitl [AS2]; · iexact AS2
      isplitl [AH2]; · iexact AH2
      isplitl [AR2]; · iexact AR2
      iexact AG2
    isplitl [AS3 AH3 AR3 AG3]
    · isplitl [AS3]; · iexact AS3
      isplitl [AH3]; · iexact AH3
      isplitl [AR3]; · iexact AR3
      iexact AG3
    iexact Hidle
  ihave Hg := (Entails.of_eq (gBuf_slots c fullShare.left (gathV pb))) $$ Hg
  icases Hg with ⟨Hg0, Hg1, Hg2, Hg3⟩
  imodintro
  iapply Hpost
  unfold bodyPost scratch staged
  isplitl [HB]; · iexact HB
  isplitl [Hsv]; · iexact Hsv
  isplitl [Hc Hp0 Hp1 Hp2 Hp3 Hr0 Hr1 Hr2 Hr3 Hg0 Hg1 Hg2 Hg3 Hh1 Hh2 Hh3 Hs1 Hs2 Hs3]
  · isplitl [Hc]; · iexists _; iexact Hc
    isplitl [Hp0 Hp1 Hp2 Hp3]
    · iexists (pb c); rw [pBuf_slots]
      isplitl [Hp0]; · iexact Hp0
      isplitl [Hp1]; · iexact Hp1
      isplitl [Hp2]; · iexact Hp2
      iexact Hp3
    isplitl [Hr0 Hr1 Hr2 Hr3]
    · iapply (rBuf_join c fr (recvV pb c))
      isplitl [Hr0]; · iexact Hr0
      isplitl [Hr1]; · iexact Hr1
      isplitl [Hr2]; · iexact Hr2
      iexact Hr3
    iexists (gathV pb); rw [gBuf_slots]
    isplitl [Hg0 Hs1 Hs2 Hs3]
    · iapply (own_join c (gathV pb))
      isplitl [Hg0]; · iexact Hg0
      isplitl [Hs1]; · iexact Hs1
      isplitl [Hs2]; · iexact Hs2
      iexact Hs3
    isplitl [Hg1 Hh1]
    · iapply (gSlot_halves c (pe c 1) fullShare (gathV pb)).2; isplitl [Hg1] <;> iassumption
    isplitl [Hg2 Hh2]
    · iapply (gSlot_halves c (pe c 2) fullShare (gathV pb)).2; isplitl [Hg2] <;> iassumption
    iapply (gSlot_halves c (pe c 3) fullShare (gathV pb)).2; isplitl [Hg3] <;> iassumption
  isplitl [Hx Hwq Hwk Hwv Hwo Hcs Hsn Hsw]
  · isplitl [Hx]; · iexact Hx
    isplitl [Hwq]; · iexact Hwq
    isplitl [Hwk]; · iexact Hwk
    isplitl [Hwv]; · iexact Hwv
    isplitl [Hwo]; · iexact Hwo
    isplitl [Hcs]; · iexact Hcs
    isplitl [Hsn]; · iexact Hsn
    iexact Hsw
  isplitl [Ho]; · iexact Ho
  iexists _; iexact HO

end Cert.KernelIdeal.Own
-- ==== Proof.KernelIdeal.Region.lean ====
/-
  The kernel's region within the whole program: what it finds in its operands, and what it leaves.
-/
module

public import proofs.«01_k».proof.Proof.KernelIdeal.Body
public import proofs.«01_k».proof.Proof.Gen.KernelIdeal.Launch
public import proofs.«01_k».proof.Proof.Gen.KernelIdeal.Frame
public import proofs.«01_k».proof.Proof.Gen.KernelIdeal.Points
public import Idealize.ShloMosaic.Lib.Pipeline.RegionTalk
public import Idealize.ShloMosaic.Lib.Pipeline.ValueKit.Geometry

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

variable (m : (ℓ : Loc nD τ sig) → Buf (Elt F) ℓ)

/-- The operands of the kernel on device `d`, as the lines before it leave them. -/
def opsAt (d : Dev nD) : Ops F :=
  ⟨V m d main_v47, V m d main_arg1, V m d main_arg2, V m d main_arg3, V m d main_arg4, V m d main_v34, V m d main_v37, V m d main_v48⟩
/-- Every device's partial product. -/
def parts (d : Dev nD) : Vec F S4x64x512 .bf16 := partV (opsAt m d)
/-- The kernel's result, the same on every device. -/
def result : Vec F S256x512 .f32 := outV (gathV (parts m))

/-- What device `c` holds of the exchanges on entering, and on leaving. -/
def enter (c : Dev nD) : sProp 𝕄 :=
  iprop((∃ K, ghost (parts m) K c) ∗ creds c ∗ levAts L lv ∗ bigSep Finset.univ (fun i : Fin 14 => semVal (scopedCell (c, i)) 0))
def leave (c : Dev nD) : sProp 𝕄 :=
  iprop(semVal (barCell c) 0 ∗ bigSep Finset.univ (fun i : Fin 14 => semVal (scopedCell (c, i)) 0))

/-- The region: the operands as found, the result written, the debts of the exchanges owed before and paid after. -/
def dat0 (c : Dev nD) : Dat τ (Elt F) Unit ℕ UU ℕ cfg0 c where
  A w := V m c (Pipeline.arrRef spec0 w)
  after w _ := match w with
    | ⟨0, _⟩ => (opsAt m c).x
    | ⟨1, _⟩ => (opsAt m c).wq
    | ⟨2, _⟩ => (opsAt m c).wk
    | ⟨3, _⟩ => (opsAt m c).wv
    | ⟨4, _⟩ => (opsAt m c).wo
    | ⟨5, _⟩ => (opsAt m c).cs
    | ⟨6, _⟩ => (opsAt m c).sn
    | ⟨7, _⟩ => (opsAt m c).sw
    | ⟨8, _⟩ => result m
  Φ t := if t.val = 0 then iprop(enter m c ∗ scratch c ∗ ∃ r, prngReg c r) else iprop(leave c ∗ scratch c ∗ ∃ r, prngReg c r)
  q _ := fullShare
  owed t := if t.val = 0 then O₀ c else 0

abbrev adm : (p : Fin 1) → (pcfgs (F := F) p).Adm := fun p => (cfgs p).toPCfg_adm
def pdats : (p : Fin 1) → (c : Dev nD) → Dat τ (Elt F) Unit ℕ UU ℕ (Pipeline.pin (pcfgs (F := F)) adm p) c
  | 0 => dat0 m

theorem owed_first (c : Dev nD) : (dat0 m c).owed t0_0.castSucc = O₀ c := by
  show (if (t0_0.castSucc : Fin (cfg0.N + 1)).val = 0 then O₀ c else 0) = O₀ c; exact if_pos rfl
theorem owed_zero (c : Dev nD) : (pdats (F := F) m 0 c).owed 0 = O₀ c := by
  show (if ((0 : Fin (cfg0.N + 1)).val = 0) then O₀ c else 0) = O₀ c; exact if_pos rfl
theorem owed_last (c : Dev nD) : (pdats (F := F) m 0 c).owed (Fin.last _) = 0 := by
  show (if (Fin.last cfg0.N).val = 0 then O₀ c else 0) = 0
  rw [Fin.val_last, if_neg (by rw [show cfg0.N = 1 from N_0]; decide)]

theorem owes_in {cfg : Cfg sig Λ₀} {c : Dev nD} (dat : Dat τ (Elt F) Unit ℕ UU ℕ cfg c) (t : Fin (cfg.N + 1))
    (O : CellTallies nD τ sig Unit) (h0 : dat.owed t = O) (hr : dat.recorded t = Set.univ) :
    (iprop(∃ W, owes (c : Thread nD τ) O W) : sProp 𝕄) ⊢ dat.owesAt () t := by
  unfold Dat.owesAt Pipeline.owesWithin Dat.bound; rw [h0, hr]
  iintro ⟨%W, HO⟩; iexists W; isplitr; · ipureintro; exact fun _ _ => Or.inl trivial
  iexact HO
theorem owes_out {cfg : Cfg sig Λ₀} {c : Dev nD} (dat : Dat τ (Elt F) Unit ℕ UU ℕ cfg c) (t : Fin (cfg.N + 1))
    (O : CellTallies nD τ sig Unit) (h0 : dat.owed t = O) :
    (dat.owesAt () t : sProp 𝕄) ⊢ iprop(∃ W, owes (c : Thread nD τ) O W) := by
  unfold Dat.owesAt Pipeline.owesWithin; rw [h0]
  iintro ⟨%W, -, HO⟩; iexists W; iexact HO

/-! ## What the windows stage: each the whole of its array -/

theorem found_0 (c : Dev nD) (d) : (dat0 m c).before 0 t0_0 d = (opsAt m c).x := by
  unfold Dat.before; rw [if_pos (fetch0_0 t0_0)]
  funext y
  exact congrArg (V m c main_v47) (funext fun a => Fin.ext (Pipeline.Window.rect_emb_val_of_index_zero win0_0 t0_0 a rfl y))
theorem found_1 (c : Dev nD) (d) : (dat0 m c).before 1 t0_0 d = (opsAt m c).wq := by
  unfold Dat.before; rw [if_pos (fetch0_1 t0_0)]
  funext y
  exact congrArg (V m c main_arg1) (funext fun a => Fin.ext (Pipeline.Window.rect_emb_val_of_index_zero win0_1 t0_0 a rfl y))
theorem found_2 (c : Dev nD) (d) : (dat0 m c).before 2 t0_0 d = (opsAt m c).wk := by
  unfold Dat.before; rw [if_pos (fetch0_2 t0_0)]
  funext y
  exact congrArg (V m c main_arg2) (funext fun a => Fin.ext (Pipeline.Window.rect_emb_val_of_index_zero win0_2 t0_0 a rfl y))
theorem found_3 (c : Dev nD) (d) : (dat0 m c).before 3 t0_0 d = (opsAt m c).wv := by
  unfold Dat.before; rw [if_pos (fetch0_3 t0_0)]
  funext y
  exact congrArg (V m c main_arg3) (funext fun a => Fin.ext (Pipeline.Window.rect_emb_val_of_index_zero win0_3 t0_0 a rfl y))
theorem found_4 (c : Dev nD) (d) : (dat0 m c).before 4 t0_0 d = (opsAt m c).wo := by
  unfold Dat.before; rw [if_pos (fetch0_4 t0_0)]
  funext y
  exact congrArg (V m c main_arg4) (funext fun a => Fin.ext (Pipeline.Window.rect_emb_val_of_index_zero win0_4 t0_0 a rfl y))
theorem found_5 (c : Dev nD) (d) : (dat0 m c).before 5 t0_0 d = (opsAt m c).cs := by
  unfold Dat.before; rw [if_pos (fetch0_5 t0_0)]
  funext y
  exact congrArg (V m c main_v34) (funext fun a => Fin.ext (Pipeline.Window.rect_emb_val_of_index_zero win0_5 t0_0 a rfl y))
theorem found_6 (c : Dev nD) (d) : (dat0 m c).before 6 t0_0 d = (opsAt m c).sn := by
  unfold Dat.before; rw [if_pos (fetch0_6 t0_0)]
  funext y
  exact congrArg (V m c main_v37) (funext fun a => Fin.ext (Pipeline.Window.rect_emb_val_of_index_zero win0_6 t0_0 a rfl y))
theorem found_7 (c : Dev nD) (d) : (dat0 m c).before 7 t0_0 d = (opsAt m c).sw := by
  unfold Dat.before; rw [if_pos (fetch0_7 t0_0)]
  funext y
  exact congrArg (V m c main_v48) (funext fun a => Fin.ext (Pipeline.Window.rect_emb_val_of_index_zero win0_7 t0_0 a rfl y))
theorem left_0 (c : Dev nD) (t) : (dat0 m c).after 0 t = (opsAt m c).x := rfl
theorem left_1 (c : Dev nD) (t) : (dat0 m c).after 1 t = (opsAt m c).wq := rfl
theorem left_2 (c : Dev nD) (t) : (dat0 m c).after 2 t = (opsAt m c).wk := rfl
theorem left_3 (c : Dev nD) (t) : (dat0 m c).after 3 t = (opsAt m c).wv := rfl
theorem left_4 (c : Dev nD) (t) : (dat0 m c).after 4 t = (opsAt m c).wo := rfl
theorem left_5 (c : Dev nD) (t) : (dat0 m c).after 5 t = (opsAt m c).cs := rfl
theorem left_6 (c : Dev nD) (t) : (dat0 m c).after 6 t = (opsAt m c).sn := rfl
theorem left_7 (c : Dev nD) (t) : (dat0 m c).after 7 t = (opsAt m c).sw := rfl
theorem left_8 (c : Dev nD) (t) : (dat0 m c).after 8 t = result m := rfl

set_option maxHeartbeats 4000000 in
set_option maxRecDepth 4000 in
/-- The kernel at its one point. -/
theorem body0 (c : Dev nD) : BodyObligation (dat0 m c) (defs₀ (F := F)) 𝒱₀ () Set.univ := fun t => by
  obtain rfl := fin_N0 t
  rw [bigSep_W0, bigSep_W0]
  rw [left_0, left_1, left_2, left_3, left_4, left_5, left_6, left_7, left_8]
  simp only [owns_whole_eq]
  rw [show (dat0 m c).Φ t0_0.castSucc = iprop(enter m c ∗ scratch c ∗ ∃ r, prngReg c r) from rfl,
    show (dat0 m c).Φ t0_0.succ = iprop(leave c ∗ scratch c ∗ ∃ r, prngReg c r) from rfl]
  iintro ⟨⟨He, Hs, Hp⟩, HO, ⟨%d0, %f0, %h0, H0⟩, ⟨%d1, %f1, %h1, H1⟩, ⟨%d2, %f2, %h2, H2⟩, ⟨%d3, %f3, %h3, H3⟩, ⟨%d4, %f4, %h4, H4⟩,
    ⟨%d5, %f5, %h5, H5⟩, ⟨%d6, %f6, %h6, H6⟩, ⟨%d7, %f7, %h7, H7⟩, ⟨%d8, %f8, %h8, H8⟩⟩
  rw [found_0] at h0; subst h0
  rw [found_1] at h1; subst h1
  rw [found_2] at h2; subst h2
  rw [found_3] at h3; subst h3
  rw [found_4] at h4; subst h4
  rw [found_5] at h5; subst h5
  rw [found_6] at h6; subst h6
  rw [found_7] at h7; subst h7
  ihave HO := (owes_out (dat0 m c) _ (O₀ c) (owed_first m c)) $$ HO
  icases HO with ⟨%W, HO⟩
  unfold enter
  icases He with ⟨⟨%K, Hg⟩, Hc, Hl, Hz⟩
  iapply (run (parts m) K c W (opsAt m c) rfl t0_0 _)
  isplitl [Hg Hc Hl Hz Hs HO H0 H1 H2 H3 H4 H5 H6 H7 H8]
  · unfold bodyPre
    isplitl [Hg]; · iexact Hg
    isplitl [Hc]; · iexact Hc
    isplitl [Hl]; · iexact Hl
    isplitl [Hz]; · iexact Hz
    isplitl [Hs]; · iexact Hs
    isplitl [H0 H1 H2 H3 H4 H5 H6 H7]
    · unfold staged
      isplitl [H0]; · iexact H0
      isplitl [H1]; · iexact H1
      isplitl [H2]; · iexact H2
      isplitl [H3]; · iexact H3
      isplitl [H4]; · iexact H4
      isplitl [H5]; · iexact H5
      isplitl [H6]; · iexact H6
      iexact H7
    isplitl [H8]; · iexists f8; iexact H8
    iexact HO
  unfold bodyPost staged
  iintro ⟨Hb, Hz, Hs, ⟨H0, H1, H2, H3, H4, H5, H6, H7⟩, H8, HO⟩
  isplitl [Hb Hz Hs Hp]
  · isplitl [Hb Hz]
    · unfold leave; isplitl [Hb] <;> iassumption
    isplitl [Hs] <;> iassumption
  isplitl [HO]; · iapply (owes_in (dat0 m c) t0_0.succ 0 (owed_last m c) rfl); iexact HO
  isplitl [H0]; · iexists _; isplitr; swap; (· iexact H0); ipureintro; rfl
  isplitl [H1]; · iexists _; isplitr; swap; (· iexact H1); ipureintro; rfl
  isplitl [H2]; · iexists _; isplitr; swap; (· iexact H2); ipureintro; rfl
  isplitl [H3]; · iexists _; isplitr; swap; (· iexact H3); ipureintro; rfl
  isplitl [H4]; · iexists _; isplitr; swap; (· iexact H4); ipureintro; rfl
  isplitl [H5]; · iexists _; isplitr; swap; (· iexact H5); ipureintro; rfl
  isplitl [H6]; · iexists _; isplitr; swap; (· iexact H6); ipureintro; rfl
  isplitl [H7]; · iexists _; isplitr; swap; (· iexact H7); ipureintro; rfl
  iexists _; isplitr; swap; (· iexact H8); ipureintro; rfl

/-! ## The region -/

/-- The buffers after the region: the result's at the result. -/
def W1 (c : Dev nD) : Valuation τ sig (Elt F) := Function.update (V0 m c) (Proc.devRef .tc main_v49) (result m)

theorem W1_v49 (c : Dev nD) : W1 m c main_v49 = result m := Function.update_self ..
theorem W1_of_ne (c : Dev nD) (b : DevRef τ sig) (h : b ≠ Proc.devRef .tc main_v49) : W1 m c b = V0 m c b := Function.update_of_ne h ..

theorem written (c : Dev nD) : (dat0 m c).arrAt 8 cfg0.N = result m :=
  (dat0 m c).arrAt_eq_of_after_last 8 t0_0 (by decide +kernel) _ (fun j => rfl)

theorem arrs_in (c : Dev nD) (w : Fin 9) : (pdats m 0 c).arrAt w 0 = V0 m c (Proc.devRef .tc (Pipeline.arrRef spec0 w)) := rfl

theorem arrs_out (c : Dev nD) (w : Fin 9) : (pdats m 0 c).arrAt w (Pipeline.pin (pcfgs (F := F)) adm 0).N = W1 m c (Proc.devRef .tc (Pipeline.arrRef spec0 w)) := by
  by_cases h : w = 8
  · subst h; exact (written m c).trans (W1_v49 m c).symm
  · have h1 : (cfg0.win w).isOut = false := by revert w; decide
    have h2 : Proc.devRef .tc (Pipeline.arrRef spec0 w) ≠ (Proc.devRef .tc main_v49 : DevRef τ sig) := by revert w; decide
    exact ((dat0 m c).arrAt_in w h1 _).trans (W1_of_ne m c _ h2).symm

theorem kit0 : Pipeline.PLaunchFacts (nD := nD) (τ := τ) (pcfgs (F := F)) 0 where
  cellOf_inj a := by rw [Subsingleton.elim a adm]; exact cellOf_inj
  win := winFacts0
  pre := Pipeline.PreFacts.none _
  block_pos := block_pos0
  arr_whole := arr_whole0
  stage_whole := stage_whole0

theorem cut0 (c : Dev nD) (t : Fin ((Pipeline.pin (pcfgs (F := F)) adm 0).N + 1)) (g : GSem nD τ sig) (i : Unit)
    (h : 0 < (pdats (F := F) m 0 c).owed t g i) : i ∈ L g ∧ (0 : ℕ) < lv g i := by
  have e : (pdats (F := F) m 0 c).owed t = if t.val = 0 then O₀ c else 0 := rfl
  rw [e] at h
  split at h
  · exact later_O₀ c g i h
  · exact absurd h (Nat.lt_irrefl 0)

theorem stage_level (c : Dev nD) (w : Fin 9) (s : Fin (cfg0.win w).nbuf) :
    lv ((c : Thread nD τ), .dma ((cfg0.win w).sem s)) () ≤ 0 := by
  revert s
  fin_cases w <;> intro s <;> exact Nat.le_refl 0

theorem own_eq (c : Dev nD) : (Pipeline.ownSems0 osem c : sProp 𝕄) = bigSep Finset.univ (fun i : Fin 14 => semVal (scopedCell (c, i)) 0) := rfl

theorem scratch_eq (c : Dev nD) : (scratch c : sProp 𝕄) = iprop((∃ f, (c : Thread nD τ).loc cc0_scratch0 ↦{fullShare} f)
    ∗ (∃ f, (c : Thread nD τ).loc cc0_scratch1 ↦{fullShare} f) ∗ (∃ f, (c : Thread nD τ).loc cc0_scratch2 ↦{fullShare} f)
    ∗ ∃ f, (c : Thread nD τ).loc cc0_scratch3 ↦{fullShare} f) := rfl

theorem own_facts : Pipeline.OwnSemFacts spec0 osem := by decide

theorem enter_in (c : Dev nD) : iprop(Pipeline.scopedRest (Pipeline.pin (pcfgs (F := F)) adm 0).spec c ∗ (∃ r, prngReg c r)
      ∗ StableHlo.held (c.tc : Thread nD τ) ∅ (V0 m c) ∗ enter m c) ⊢ (pdats m 0 c).Φ 0 := by
  rw [show (pdats m 0 c).Φ 0 = iprop(enter m c ∗ scratch c ∗ ∃ r, prngReg c r) from rfl, show (Pipeline.pin (pcfgs (F := F)) adm 0).spec = spec0 from rfl, scopedRest0_eq, scratch_eq]
  iintro ⟨Hs, Hp, -, He⟩
  isplitl [He]; · iexact He
  isplitl [Hs]; · iexact Hs
  iexact Hp

theorem leave_out (c : Dev nD) : (pdats m 0 c).Φ (Fin.last (Pipeline.pin (pcfgs (F := F)) adm 0).N)
    ⊢ iprop(Pipeline.scopedRest (Pipeline.pin (pcfgs (F := F)) adm 0).spec c ∗ (∃ r, prngReg c r)
      ∗ StableHlo.held (c.tc : Thread nD τ) ∅ (W1 m c) ∗ Pipeline.ownSems0 osem c ∗ semVal (barCell c) 0) := by
  rw [show (pdats m 0 c).Φ (Fin.last _) = iprop(leave c ∗ scratch c ∗ ∃ r, prngReg c r) from rfl, show (Pipeline.pin (pcfgs (F := F)) adm 0).spec = spec0 from rfl, scopedRest0_eq, own_eq, scratch_eq]
  unfold leave
  iintro ⟨⟨Hb, Hz⟩, Hs, Hp⟩
  isplitl [Hs]; · iexact Hs
  isplitl [Hp]; · iexact Hp
  isplitr
  · unfold StableHlo.held; rw [BI.bigSep_empty]; iempintro
  isplitl [Hz]; · iexact Hz
  iexact Hb

/-- What rides with device `c` to the region. -/
def ride (c : Dev nD) : sProp 𝕄 := iprop((∃ K, ghost (parts m) K c) ∗ creds c)

theorem opened0 (c : Dev nD) : iprop(ride m c ∗ Pipeline.ownSems0 osem c ∗ levAts L lv) ⊢ (|={Set.univ}=> enter m c : sProp 𝕄) := by
  rw [own_eq]
  unfold ride enter
  iintro ⟨⟨HK, Hc⟩, Hz, #Hl⟩
  imodintro
  isplitl [HK]; · iexact HK
  isplitl [Hc]; · iexact Hc
  isplitr; · iexact Hl
  iexact Hz

/-- The buffers no window stages. -/
abbrev others : Finset (DevRef τ sig) := Pipeline.ucRefs τ sig \ Pipeline.arrRefs (τ := τ) spec0

theorem others_kept (c : Dev nD) : ∀ b ∈ others \ (∅ : Finset (DevRef τ sig)), W1 m c b = V0 m c b := fun b hb =>
  W1_of_ne m c b (fun e => by
    rw [Finset.sdiff_empty, e] at hb
    exact (Finset.mem_sdiff.mp hb).2 (by decide))

set_option backward.isDefEq.respectTransparency.types false in
def reg0 : Pipeline.RegionSeg (pcfgs (F := F)) adm (pdats m) () defs₀ 𝒱₀ L lv 0 :=
  Pipeline.RegionSeg.ofTalk (pcfgs (F := F)) adm (pdats m) () defs₀ 𝒱₀ L lv 0 osem own_facts
    ∅ others (Finset.empty_subset _) kit0 rfl (fun c => (body0 m c).loose)
    (fun _ => 0) O₀ (fun c => (owed_zero m c).trans (zero_add _).symm) (owed_last m) (fun _ => rfl)
    (fun c w => (dat0 m c).share_full (fun _ => rfl) w)
    (V0 m) (W1 m) (others_kept m)
    (ride m) (fun c => semVal (barCell c) 0) (enter m) (fun c => semVal (barCell c) 0) (opened0 m) (enter_in m) (leave_out m)
    (fun c => by iintro H; imodintro; iexact H)
    (fun _ => 0)
    ⟨fun c w s => by rw [L_tc]; exact Finset.mem_singleton_self _, fun c w s => stage_level c w s, fun c t g i h => cut0 m c t g i h⟩
    (fun _ => iprop(emp))
    (arrs_in m) (arrs_out m)

end Cert.KernelIdeal.Own
-- ==== Proof.KernelIdeal.Start.lean ====
/-
  What every device holds before the program: the records of the counters opened, the rights to raise them dealt, the credit counted.
-/
module

public import proofs.«01_k».proof.Proof.KernelIdeal.Region

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-! ## The counters -/

theorem osem_inj : Function.Injective osem := by decide
theorem osem_ne_bar : ∀ i : Fin 14, osem i ≠ .reg barS := by decide

def barEmb : Dev nD ↪ GSem nD τ sig := ⟨fun c => barCell c, fun _ _ h => congrArg (fun g : GSem nD τ sig => g.1.1) h⟩
def ownEmb : Dev nD × Fin 14 ↪ GSem nD τ sig :=
  ⟨scopedCell, fun _ _ h => Prod.ext (congrArg (fun g : GSem nD τ sig => g.1.1) h) (osem_inj (congrArg Prod.snd h))⟩

abbrev barCells : Finset (GSem nD τ sig) := Finset.univ.map barEmb
abbrev ownCells : Finset (GSem nD τ sig) := Finset.univ.map ownEmb

theorem cells_apart : Disjoint (barCells : Finset (GSem nD τ sig)) ownCells := by
  rw [Finset.disjoint_left]
  rintro g h₁ h₂
  obtain ⟨c, -, rfl⟩ := Finset.mem_map.mp h₁
  obtain ⟨x, -, h⟩ := Finset.mem_map.mp h₂
  exact osem_ne_bar x.2 (congrArg Prod.snd h)

theorem bar_mem (c : Dev nD) : barCell c ∈ (barCells ∪ ownCells : Finset (GSem nD τ sig)) :=
  Finset.mem_union_left _ (Finset.mem_map_of_mem barEmb (Finset.mem_univ c))
theorem own_mem (x : Dev nD × Fin 14) : scopedCell x ∈ (barCells ∪ ownCells : Finset (GSem nD τ sig)) :=
  Finset.mem_union_right _ (Finset.mem_map_of_mem ownEmb (Finset.mem_univ x))

/-! ## The rights to raise them -/

/-- The right of device `c` towards its peer `k + 1` places on, the `n`-th of five. -/
def right (x : Dev nD × Fin 3 × Fin 5) : GSem nD τ sig × ℕ × Fin 4 :=
  match x with
  | (c, k, 0) => (barCell (pe c k.succ), 0, c)
  | (c, k, 1) => (dmaCell (pe c k.succ) (rsR c), 0, 0)
  | (c, k, 2) => (dmaCell (pe c k.succ) (agR c), 0, 0)
  | (c, k, 3) => (dmaCell c (rsS k), 0, 0)
  | (c, k, 4) => (dmaCell c (agS k), 0, 0)

theorem right_inj : Function.Injective right := by decide +kernel

def rights : Finset (GSem nD τ sig × ℕ × Fin 4) := Finset.univ.map ⟨right, right_inj⟩

omit [FloatOps F] in
theorem rights_eq : bigSep rights (fun x => (dutyTok ER x.1 x.2.1 x.2.2 : sProp 𝕄))
    = bigSep Finset.univ fun c : Dev nD => iprop(toks c 0 ∗ toks c 1 ∗ toks c 2) := by
  unfold rights; rw [bigSep_map, bigSep_univ_prod]
  refine bigSep_congr fun c _ => ?_
  rw [bigSep_univ_prod, bigSep_univ_eq_bigSepL [0, 1, 2] (by decide) (by decide)]
  have h (k : Fin 3) : (bigSep Finset.univ fun n : Fin 5 => (dutyTok ER (right (c, k, n)).1 (right (c, k, n)).2.1 (right (c, k, n)).2.2 : sProp 𝕄)) = toks c k := by
    rw [bigSep_univ_eq_bigSepL [0, 1, 2, 3, 4] (by decide) (by decide)]; rfl
  exact congrArg₂ _ (h 0) (congrArg₂ _ (h 1) (h 2))

/-! ## The credit -/

theorem cell_iff (c e : Dev nD) (s t : SemLoc sig) : (((c : Thread nD τ), s) : GSem nD τ sig) = ((e : Thread nD τ), t) ↔ c = e ∧ s = t :=
  ⟨fun h => ⟨congrArg (fun g : GSem nD τ sig => g.1.1) h, congrArg Prod.snd h⟩, fun ⟨h, h'⟩ => by rw [h, h']⟩

theorem owed_at (d c : Dev nD) (s : SemLoc sig) : O₀ d ((c : Thread nD τ), s) () =
    ((((((((if c = pe d 3 ∧ s = .dma (agR d) then N else 0) + (if c = pe d 2 ∧ s = .dma (agR d) then N else 0)) + (if c = pe d 1 ∧ s = .dma (agR d) then N else 0))
      + (if c = pe d 3 ∧ s = .dma (rsR d) then N else 0)) + (if c = pe d 2 ∧ s = .dma (rsR d) then N else 0)) + (if c = pe d 1 ∧ s = .dma (rsR d) then N else 0))
      + (if c = pe d 3 ∧ s = .reg barS then 1 else 0)) + (if c = pe d 2 ∧ s = .reg barS then 1 else 0)) + (if c = pe d 1 ∧ s = .reg barS then 1 else 0) := by
  simp only [O₀, owedR, owedG, barO, rsO, agO, Pi.add_apply, Finsupp.add_apply, tallyAt_apply, Pi.zero_apply, Finsupp.zero_apply, cell_iff, and_true, zero_add]

theorem owed_bar (c : Dev nD) : ∑ d : Dev nD, O₀ d (barCell c) () = 3 := by
  have h (d : Dev nD) : O₀ d (barCell c) () = if d = c then 0 else 1 := by
    rw [owed_at]
    simp only [reduceCtorEq, and_false, if_false, and_true, zero_add, add_zero]
    revert c d; decide
  rw [Finset.sum_congr rfl fun d _ => h d]
  clear h; revert c; decide

theorem rsR_iff (j i : Fin 4) : ((.dma (rsR j) : SemLoc sig) = .dma (rsR i)) ↔ j = i := by revert j i; decide
theorem agR_iff (j i : Fin 4) : ((.dma (agR j) : SemLoc sig) = .dma (agR i)) ↔ j = i := by revert j i; decide
theorem rs_ag (j i : Fin 4) : ((.dma (rsR j) : SemLoc sig) = .dma (agR i)) ↔ False := by revert j i; decide
theorem ag_rs (j i : Fin 4) : ((.dma (agR j) : SemLoc sig) = .dma (rsR i)) ↔ False := by revert j i; decide

/-- Of the three peers of `d`, one is `c` unless `c` is `d`. -/
theorem one_peer (c d j : Dev nD) (n : ℕ) (h : j ≠ c) :
    ((if c = pe d 3 ∧ j = d then n else 0) + (if c = pe d 2 ∧ j = d then n else 0)) + (if c = pe d 1 ∧ j = d then n else 0) = if d = j then n else 0 := by
  by_cases e : d = j
  · subst e
    have h3 : (c = pe d 1 ∧ c ≠ pe d 2 ∧ c ≠ pe d 3) ∨ (c ≠ pe d 1 ∧ c = pe d 2 ∧ c ≠ pe d 3) ∨ (c ≠ pe d 1 ∧ c ≠ pe d 2 ∧ c = pe d 3) := by
      revert h; revert c d; decide
    rcases h3 with ⟨h1, h2, h3⟩ | ⟨h1, h2, h3⟩ | ⟨h1, h2, h3⟩ <;> simp [h1, h2, h3] <;> simp_all
  · rw [if_neg (fun x => e x.2.symm), if_neg (fun x => e x.2.symm), if_neg (fun x => e x.2.symm), if_neg e]

theorem owed_rs (c j : Dev nD) (h : j ≠ c) : ∑ d : Dev nD, O₀ d (dmaCell c (rsR j)) () = N := by
  have e (d : Dev nD) : O₀ d (dmaCell c (rsR j)) () = if d = j then N else 0 := by
    rw [owed_at]
    simp only [reduceCtorEq, rsR_iff, rs_ag, and_false, if_false, zero_add, add_zero]
    exact one_peer c d j N h
  rw [Finset.sum_congr rfl fun d _ => e d, Finset.sum_ite_eq' Finset.univ j fun _ => N, if_pos (Finset.mem_univ _)]
theorem owed_ag (c j : Dev nD) (h : j ≠ c) : ∑ d : Dev nD, O₀ d (dmaCell c (agR j)) () = N := by
  have e (d : Dev nD) : O₀ d (dmaCell c (agR j)) () = if d = j then N else 0 := by
    rw [owed_at]
    simp only [reduceCtorEq, agR_iff, ag_rs, and_false, if_false, zero_add, add_zero]
    exact one_peer c d j N h
  rw [Finset.sum_congr rfl fun d _ => e d, Finset.sum_ite_eq' Finset.univ j fun _ => N, if_pos (Finset.mem_univ _)]

theorem credit_of (g : GSem nD τ sig) (n : ℕ) (h : ∑ d : Dev nD, O₀ d g () = n) :
    tallyOn g (launchCredit (Pipeline.owing O₀) 0 g) = (tallyAt g () n : CellTallies nD τ sig Unit) := by
  unfold tallyAt; refine congrArg _ (Finsupp.ext fun u => ?_); cases u
  rw [Pipeline.launchCredit_owing, Finsupp.single_eq_same, h]

/-- The counters a device waits on. -/
abbrev waits (c : Dev nD) : List (SemLoc sig) :=
  [.reg barS, .dma (rsR (pe c 1)), .dma (rsR (pe c 2)), .dma (rsR (pe c 3)), .dma (agR (pe c 1)), .dma (agR (pe c 2)), .dma (agR (pe c 3))]
theorem waits_nodup (c : Dev nD) : (waits c).Nodup := by revert c; decide

omit [FloatOps F] in
theorem credit_all (c : Dev nD) : (Pipeline.launchCred O₀ c : sProp 𝕄) ⊢ creds c := by
  unfold Pipeline.launchCred
  refine BIBase.Entails.trans (bigSep_subset (Finset.subset_univ (waits c).toFinset)) ?_
  rw [bigSep_eq_bigSepL_of_eq (waits c) rfl (waits_nodup c)]
  have hL (Φ : SemLoc sig → sProp 𝕄) : BI.bigSepL (waits c) Φ = iprop(Φ (.reg barS) ∗ Φ (.dma (rsR (pe c 1))) ∗ Φ (.dma (rsR (pe c 2)))
      ∗ Φ (.dma (rsR (pe c 3))) ∗ Φ (.dma (agR (pe c 1))) ∗ Φ (.dma (agR (pe c 2))) ∗ Φ (.dma (agR (pe c 3)))) := rfl
  rw [hL]
  have e1 := credit_of (barCell c) 3 (owed_bar c)
  have e2 (k : Fin 4) (hk : k ≠ 0) := credit_of (dmaCell c (rsR (pe c k))) N (owed_rs c (pe c k) (pe_ne c k hk))
  have e3 (k : Fin 4) (hk : k ≠ 0) := credit_of (dmaCell c (agR (pe c k))) N (owed_ag c (pe c k) (pe_ne c k hk))
  unfold creds
  rw [← e1, ← e2 1 (by decide), ← e2 2 (by decide), ← e2 3 (by decide), ← e3 1 (by decide), ← e3 2 (by decide), ← e3 3 (by decide)]
  iintro ⟨H1, H2, H3, H4, H5, H6, H7⟩
  isplitl [H1]; · iexact H1
  isplitl [H2 H3 H4]
  · isplitl [H2]; · iexact H2
    isplitl [H3]; · iexact H3
    iexact H4
  isplitl [H5]; · iexact H5
  isplitl [H6]; · iexact H6
  iexact H7

/-! ## The start -/

/-- The bookkeeping at launch. -/
def u₀ : UU :=
  (initOf (Pipeline.cells (Pipeline.pin (pcfgs (F := F)) adm) cellOf_inj) (Pipeline.launchToks (Pipeline.pin (pcfgs (F := F)) adm) cellOf_inj),
    launchOf barCells ownCells rights)

/-- All of the exchanges' bookkeeping waits with device 0 until it is dealt. -/
def G (c : Dev nD) : sProp 𝕄 := if c = 0 then BI.own (ER (launchOf barCells ownCells rights)) else iprop(emp)
omit [FloatOps F] in
theorem G_all : bigSep Finset.univ (G (F := F)) = BI.own (ER (launchOf barCells ownCells rights)) := by
  rw [bigSep_univ_at _ (0 : Dev nD), bigSep_congr (s := Finset.univ.erase (0 : Dev nD)) (Ψ := fun _ => (BI.emp : sProp 𝕄))
      fun c hc => by unfold G; rw [if_neg (Finset.ne_of_mem_erase hc)]; rfl, BI.bigSep_emp_const]
  unfold G; rw [if_pos rfl]
  exact BI.equiv_iff.mp sep_emp

/-- The records, as the launch deals them. -/
def records (κ : GSem nD τ sig → ℕ) : sProp 𝕄 :=
  iprop((bigSep (barCells ∪ ownCells) fun g => cellInv ER (sched (parts m)) (κ g) g) ∗ bigSep barCells fun g => reached ER g 0)

instance records_persistent (κ : GSem nD τ sig → ℕ) : BI.Persistent (records m κ) := by unfold records; infer_instance

theorem records_bar (κ : GSem nD τ sig → ℕ) (c : Dev nD) :
    records m κ ⊢ (iprop(cellInv ER (sched (parts m)) (κ (barCell c)) (barCell c) ∗ reached ER (barCell c) 0) : sProp 𝕄) := by
  unfold records
  exact BI.BIClass.sep_mono (bigSep_elim (bar_mem c)) (bigSep_elim (Finset.mem_map_of_mem barEmb (Finset.mem_univ c)))
theorem records_own (κ : GSem nD τ sig → ℕ) (x : Dev nD × Fin 14) :
    records m κ ⊢ (cellInv ER (sched (parts m)) (κ (scopedCell x)) (scopedCell x) : sProp 𝕄) := by
  unfold records
  exact sep_elim_left.trans (bigSep_elim (own_mem x))

theorem all_of {I : Type} [DecidableEq I] [Fintype I] (R : sProp 𝕄) [BI.Persistent R] (Φ : I → sProp 𝕄) (h : ∀ i, R ⊢ Φ i) :
    R ⊢ bigSep Finset.univ Φ := by
  refine BIBase.Entails.trans ?_ (bigSep_with_persistent (R := R) (Φ := fun _ => (BI.emp : sProp 𝕄)) fun i _ => sep_elim_left.trans (h i))
  rw [BI.bigSep_emp_const]
  iintro H
  isplitl [H]; · iexact H
  iempintro

theorem invs_of (κ : GSem nD τ sig → ℕ) : records m κ ⊢ (invs (parts m) κ : sProp 𝕄) := by
  unfold invs
  iintro #H
  isplitr
  · iapply (all_of (records m κ) _ (records_bar m κ)); iexact H
  · iapply (all_of (records m κ) _ (records_own m κ)); iexact H

/-- What stays with one device. -/
def kept (c : Dev nD) : sProp 𝕄 :=
  iprop(atPos ER (barCell c) 0 ∅ 0 ∗ bigSep Finset.univ (fun i : Fin 14 => openTok ER (scopedCell (c, i))) ∗ toks c 0 ∗ toks c 1 ∗ toks c 2)

theorem ghost_of (κ : GSem nD τ sig → ℕ) (c : Dev nD) : iprop(records m κ ∗ kept c) ⊢ (iprop(∃ K, ghost (parts m) K c) : sProp 𝕄) := by
  unfold kept ghost
  iintro ⟨#HR, Hk⟩
  iexists κ
  isplitr
  · iapply (invs_of m κ); iexact HR
  iexact Hk

omit [FloatOps F] in
theorem unscopedSems0_eq (c : Dev nD) : (unscopedSems0 c : sProp 𝕄) = semVal (barCell c) 0 := by
  unfold unscopedSems0
  rw [show (Finset.univ.filter fun sm : SemLoc sig => ¬ sm.isScoped .tc) = {SemLoc.reg barS} from by decide, BI.bigSep_singleton]

/-- What rides with device `c` beside its buffers up to the region. -/
def before (c : Dev nD) : sProp 𝕄 := iprop(ride m c ∗ (∃ r, prngReg c r) ∗ ∃ W, owes (c : Thread nD τ) (O₀ c) W)
/-- The first state of device `c`. -/
abbrev T₀ (c : Dev nD) : sProp 𝕄 := iprop(StableHlo.held (c : Thread nD τ) (Pipeline.ucRefs τ sig) (fun b => m (c, b)) ∗ before m c)

/-- What of it is not of the exchanges. -/
def bundle (c : Dev nD) : sProp 𝕄 :=
  iprop(StableHlo.held (c : Thread nD τ) (Pipeline.ucRefs τ sig) (fun b => m (c, b)) ∗ creds c ∗ owes (c : Thread nD τ) (O₀ c) ∅ ∗ ∃ r, prngReg c r)

theorem T₀_of (κ : GSem nD τ sig → ℕ) (c : Dev nD) : iprop(records m κ ∗ (kept c ∗ bundle m c)) ⊢ T₀ m c := by
  unfold bundle T₀ before ride
  iintro ⟨#HR, Hl, Hh, Hc, HO, Hp⟩
  isplitl [Hh]; · iexact Hh
  isplitl [Hl Hc]
  · isplitl [Hl]
    · iapply (ghost_of m κ c)
      isplitr; · iexact HR
      iexact Hl
    iexact Hc
  isplitl [Hp]; · iexact Hp
  iexists ∅; iexact HO

omit [FloatOps F] in
theorem split_all (Φ Ψ : Dev nD → sProp 𝕄) :
    bigSep Finset.univ (fun c => iprop(Φ c ∗ Ψ c)) ⊢ (iprop(bigSep Finset.univ Φ ∗ bigSep Finset.univ Ψ) : sProp 𝕄) := Entails.of_eq (bigSep_sep' _ _ _)
omit [FloatOps F] in
theorem join_all (Φ Ψ : Dev nD → sProp 𝕄) :
    iprop(bigSep Finset.univ Φ ∗ bigSep Finset.univ Ψ) ⊢ (bigSep Finset.univ (fun c => iprop(Φ c ∗ Ψ c)) : sProp 𝕄) := Entails.of_eq (bigSep_sep' _ _ _).symm

/-- Every device's first state, from what the launch deals all of them. -/
theorem start :
    iprop((bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c)) ∗ levAts L lv)
      ⊢ (|={Set.univ}=> bigSep Finset.univ (T₀ m) : sProp 𝕄) := by
  have hcore (c : Dev nD) : iprop(unscopedBufs c (fun b => m ((c : Thread nD τ).loc b)) ∗ unscopedSems0 c
        ∗ owes (c : Thread nD τ) (O₀ c) ∅ ∗ Pipeline.launchCred O₀ c ∗ prngReg c (ρ c) ∗ G c)
      ⊢ (iprop(bundle m c ∗ (semVal (barCell c) 0 ∗ G c)) : sProp 𝕄) := by
    rw [show unscopedBufs c (fun b => m ((c : Thread nD τ).loc b)) = StableHlo.held (c : Thread nD τ) (Pipeline.ucRefs τ sig) (fun b => m (c, b))
      from Pipeline.unscopedBufs_held c (fun b => m (c, b)), unscopedSems0_eq]
    unfold bundle
    iintro ⟨Hh, Hus, HO, Hcr, Hp, HG⟩
    ihave Hc := (credit_all (F := F) c) $$ Hcr
    isplitl [Hh Hc HO Hp]
    · isplitl [Hh]; · iexact Hh
      isplitl [Hc]; · iexact Hc
      isplitl [HO]; · iexact HO
      iexists (ρ c); iexact Hp
    isplitl [Hus] <;> iassumption
  have hv : bigSep Finset.univ (fun c : Dev nD => (semVal (barCell c) 0 : sProp 𝕄)) ⊢ bigSep barCells (fun g => (semVal g 0 : sProp 𝕄)) :=
    Entails.of_eq (bigSep_map (s := Finset.univ) barEmb (Φ := fun g : GSem nD τ sig => (semVal g 0 : sProp 𝕄))).symm
  have hat : bigSep barCells (fun g => (atPos ER g 0 ∅ 0 : sProp 𝕄)) ⊢ bigSep Finset.univ (fun c : Dev nD => (atPos ER (barCell c) 0 ∅ 0 : sProp 𝕄)) :=
    Entails.of_eq (bigSep_map (s := Finset.univ) barEmb (Φ := fun g : GSem nD τ sig => (atPos ER g 0 ∅ 0 : sProp 𝕄)))
  have hopen : bigSep ownCells (fun g => (openTok ER g : sProp 𝕄))
      ⊢ bigSep Finset.univ (fun c : Dev nD => bigSep Finset.univ (fun i : Fin 14 => openTok ER (scopedCell (c, i)))) :=
    Entails.of_eq (by rw [bigSep_map, bigSep_univ_prod]; rfl)
  iintro ⟨H, -⟩
  ihave H' := (show (bigSep Finset.univ fun c : Dev nD => iprop(unscopedBufs c (fun b => m ((c : Thread nD τ).loc b)) ∗ unscopedSems0 c
          ∗ owes (c : Thread nD τ) (O₀ c) ∅ ∗ Pipeline.launchCred O₀ c ∗ prngReg c (ρ c) ∗ G c))
      ⊢ (bigSep Finset.univ fun c : Dev nD => iprop(bundle m c ∗ (semVal (barCell c) 0 ∗ G c)) : sProp 𝕄) from bigSep_mono fun c _ => hcore c) $$ H
  ihave H2 := (split_all _ _) $$ H'; icases H2 with ⟨HB, H3⟩
  ihave H4 := (split_all _ _) $$ H3; icases H4 with ⟨Hv, HG⟩
  ihave Hu := (show bigSep Finset.univ (G (F := F)) ⊢ BI.own (ER (launchOf barCells ownCells rights)) from Entails.of_eq (G_all (F := F))) $$ HG
  imod (Rounds.fund_launch ER (sched (parts m)) cells_apart (fun g _ h => h) rights) $$ [Hv Hu] with ⟨%κ, -, #Hinv, #Hr, Hat, Hopen, Htok⟩
  · isplitl [Hv]
    · iapply hv $$ Hv
    · iexact Hu
  imodintro
  iapply (bigSep_with_persistent (R := records m κ) (Φ := fun c => iprop(kept c ∗ bundle m c)) fun c _ => T₀_of m κ c)
  isplitr
  · unfold records
    isplitr; · iexact Hinv
    iexact Hr
  iapply (join_all _ _)
  isplitr [HB]
  · unfold kept
    iapply (join_all _ _); isplitl [Hat]; · iapply hat $$ Hat
    iapply (join_all _ _); isplitl [Hopen]; · iapply hopen $$ Hopen
    iapply (Entails.of_eq (rights_eq (F := F))) $$ Htok
  · iexact HB

end Cert.KernelIdeal.Own
-- ==== Proof.KernelIdeal.Whole.lean ====
/-
  The whole program: the lines before the kernel, the kernel, the line after it.
-/
module

public import proofs.«01_k».proof.Proof.KernelIdeal.Start

@[expose] public section

noncomputable section

namespace Cert.KernelIdeal.Own

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ UU ℕ

variable (m : (ℓ : Loc nD τ sig) → Buf (Elt F) ℓ) (ρ : Dev nD → PrngReg)

/-- What rides beside the buffers after the kernel. -/
def after0 (c : Dev nD) : sProp 𝕄 := iprop(semVal (barCell c) 0 ∗ ∃ W, owes (c : Thread nD τ) (0 : CellTallies nD τ sig Unit) W)

/-- The lines before the kernel. -/
def host0 : Pipeline.HostSeg (Name := ℕ) (U := UU) (pcfgs (F := F)) defs₀ 𝒱₀ L lv :=
  Pipeline.HostSeg.ofOps (pcfgs (F := F)) defs₀ 𝒱₀ L lv (Pipeline.ucRefs τ sig) hostOps0
    (fun op hop => Pipeline.sub_ucRefs op ((List.forall_iff_forall_mem.mp hostOps0_sub) op hop))
    (fun op hop => (List.forall_iff_forall_mem.mp hostOps0_fresh) op hop) (fun c b => m (c, b)) (before m)
/-- The line after it. -/
def host1 : Pipeline.HostSeg (Name := ℕ) (U := UU) (pcfgs (F := F)) defs₀ 𝒱₀ L lv :=
  Pipeline.HostSeg.ofOps (pcfgs (F := F)) defs₀ 𝒱₀ L lv (Pipeline.ucRefs τ sig) hostOps1
    (fun op hop => Pipeline.sub_ucRefs op ((List.forall_iff_forall_mem.mp hostOps1_sub) op hop))
    (fun op hop => (List.forall_iff_forall_mem.mp hostOps1_fresh) op hop) (W1 m) after0

/-- What the buffers hold at the end. -/
def last (c : Dev nD) : Valuation τ sig (Elt F) := StableHlo.after hostOps1 (W1 m c)
/-- The last state of device `c`. -/
def Tₙ (c : Dev nD) : sProp 𝕄 := iprop(StableHlo.held (c : Thread nD τ) (Pipeline.ucRefs τ sig) (last m c) ∗ semVal (barCell c) 0)

theorem arr_sub : Pipeline.arrRefs (τ := τ) spec0 ⊆ Pipeline.ucRefs τ sig := by decide

theorem into0 (c : Dev nD) : (host0 m).post c ⊢ (reg0 m).pre c := by
  show iprop(StableHlo.held (c : Thread nD τ) (Pipeline.ucRefs τ sig) (StableHlo.after hostOps0 (fun b => m (c, b))) ∗ before m c)
    ⊢ iprop(StableHlo.held (c : Thread nD τ) (Pipeline.arrRefs (τ := τ) spec0) (V0 m c) ∗ (∃ r, prngReg c r)
        ∗ (StableHlo.held (c : Thread nD τ) others (V0 m c) ∗ emp) ∗ ride m c ∗ ∃ Wd, owes (c : Thread nD τ) (0 + O₀ c) Wd)
  rw [show StableHlo.after hostOps0 (fun b => m (c, b)) = V0 m c from by rw [V0, List.flatten_singleton],
    StableHlo.held_sub_split _ arr_sub, zero_add]
  unfold before
  iintro ⟨⟨HA, HB⟩, HR, Hp, HO⟩
  isplitl [HA]; · iexact HA
  isplitl [Hp]; · iexact Hp
  isplitl [HB]
  · isplitl [HB]; · iexact HB
    iempintro
  isplitl [HR]; · iexact HR
  iexact HO

theorem out0 (c : Dev nD) : (reg0 m).post c ⊢ (host1 m).pre c := by
  show iprop(StableHlo.held (c : Thread nD τ) (Pipeline.arrRefs (τ := τ) spec0) (W1 m c) ∗ (∃ r, prngReg c r)
        ∗ (StableHlo.held (c : Thread nD τ) others (W1 m c) ∗ emp) ∗ semVal (barCell c) 0 ∗ ∃ Wd, owes (c : Thread nD τ) (0 : CellTallies nD τ sig Unit) Wd)
    ⊢ iprop(StableHlo.held (c : Thread nD τ) (Pipeline.ucRefs τ sig) (W1 m c) ∗ after0 c)
  rw [StableHlo.held_sub_split (S := Pipeline.ucRefs τ sig) _ arr_sub]
  unfold after0
  iintro ⟨HA, -, ⟨HB, -⟩, HS, HO⟩
  isplitl [HA HB]
  · isplitl [HA]; · iexact HA
    iexact HB
  isplitl [HS]; · iexact HS
  iexact HO

/-- The buffers the claims read. -/
abbrev readList : List (DevRef τ sig) :=
  [Proc.devRef .tc main_v50, Proc.devRef .tc main_arg0, Proc.devRef .tc main_arg1, Proc.devRef .tc main_arg2, Proc.devRef .tc main_arg3, Proc.devRef .tc main_arg4]
theorem read_sub : readList.toFinset ⊆ Pipeline.ucRefs τ sig := by decide
theorem read_nodup : readList.Nodup := by decide

theorem last_arg (c : Dev nD) (b : Ref sig .tc) (h50 : Proc.devRef .tc b ≠ (Proc.devRef .tc main_v50 : DevRef τ sig))
    (h49 : Proc.devRef .tc b ≠ (Proc.devRef .tc main_v49 : DevRef τ sig)) : last m c (Proc.devRef .tc b) = V m c b := by
  unfold last
  rw [StableHlo.after_cons, StableHlo.after_nil, StableHlo.reshape_result_ne (h := fun e => h50 (by rw [e])), W1_of_ne m c _ h49]

theorem unscoped_eq : ∀ sm : SemLoc sig, sm.isScoped .tc = false → sm = .reg barS := by decide

/-- The program's result in its own shape. -/
def answer : Vec F S2x128x512 .f32 := shapeCast S2x128x512 (result m) shapeCasts_S256x512_S2x128x512

theorem last_v50 (c : Dev nD) : last m c (Proc.devRef .tc main_v50) = answer m := by
  unfold last
  rw [StableHlo.after_cons, StableHlo.after_nil, StableHlo.reshape_result', W1_v49]; rfl

set_option backward.isDefEq.respectTransparency.types false in
/-- From any memory with its counters at zero, every run ends with the answer in every device's result, the arguments as they were
    and every counter at zero. -/
theorem run_main : θ_run (defs (F := F)) (onTc (τ := τ) (main (F := F))) ⟨m, fun _ => 0, ρ⟩
    (fun r => (∀ c : Dev nD, r.2.mem ((c : Thread nD τ).loc main_v50) = answer m
        ∧ r.2.mem ((c : Thread nD τ).loc main_arg0) = m ((c : Thread nD τ).loc main_arg0)
        ∧ r.2.mem ((c : Thread nD τ).loc main_arg1) = m ((c : Thread nD τ).loc main_arg1)
        ∧ r.2.mem ((c : Thread nD τ).loc main_arg2) = m ((c : Thread nD τ).loc main_arg2)
        ∧ r.2.mem ((c : Thread nD τ).loc main_arg3) = m ((c : Thread nD τ).loc main_arg3)
        ∧ r.2.mem ((c : Thread nD τ).loc main_arg4) = m ((c : Thread nD τ).loc main_arg4)) ∧ r.2.sem = fun _ => 0) :=
  Pipeline.θ_run_regions_kit_sems (pcfgs (F := F)) adm (pdats m) () cellOf_inj EP defs₀ 𝒱₀ L lv m ρ main [.host (host0 m), .region (reg0 m), .host (host1 m)]
    (fun c Q => by rw [main_segs adm (pdats m) () 𝒱₀ L lv (host0 m) (host1 m) (reg0 m) rfl rfl c])
    (by simp only [Pipeline.Seg.pipes_host, Pipeline.Seg.pipes_region, Pipeline.Seg.pipes_nil]; decide)
    (O₀ := O₀) (hL := L_of_ne) (G := G) (u₀ := u₀)
    (hu₀ := by
      unfold u₀
      iintro Hu
      ihave H := (ownU_pair _ _) $$ Hu
      icases H with ⟨HP, HX⟩
      imodintro
      isplitl [HP]; · iexact HP
      rw [G_all]; iexact HX)
    (T₀ := T₀ m) (Tₙ := Tₙ m)
    (hch := by
      refine ⟨fun c => .rfl, fun c => into0 m c, fun c => out0 m c, fun c => ?_⟩
      show iprop(StableHlo.held (c : Thread nD τ) (Pipeline.ucRefs τ sig) (last m c) ∗ after0 c)
        ⊢ iprop(Tₙ m c ∗ ∃ W, owes (c : Thread nD τ) (0 : CellTallies nD τ sig Unit) W)
      unfold after0 Tₙ
      iintro ⟨Hh, Hb0, HO⟩
      isplitr [HO]
      · isplitl [Hh] <;> iassumption
      · iexact HO)
    (hinit := start m ρ)
    (QY := fun c s => (s.mem ((c : Thread nD τ).loc main_v50) = last m c (Proc.devRef .tc main_v50)
        ∧ s.mem ((c : Thread nD τ).loc main_arg0) = last m c (Proc.devRef .tc main_arg0)
        ∧ s.mem ((c : Thread nD τ).loc main_arg1) = last m c (Proc.devRef .tc main_arg1)
        ∧ s.mem ((c : Thread nD τ).loc main_arg2) = last m c (Proc.devRef .tc main_arg2)
        ∧ s.mem ((c : Thread nD τ).loc main_arg3) = last m c (Proc.devRef .tc main_arg3)
        ∧ s.mem ((c : Thread nD τ).loc main_arg4) = last m c (Proc.devRef .tc main_arg4))
      ∧ s.sem (barCell c) = 0)
    (hfin := fun c s' => by
      dsimp only [Tₙ]
      rw [StableHlo.held_sub_split (S := Pipeline.ucRefs τ sig) _ read_sub,
        show (StableHlo.held (c : Thread nD τ) readList.toFinset (last m c) : sProp 𝕄)
          = iprop(((c, Proc.devRef .tc main_v50) ↦{fullShare} last m c (Proc.devRef .tc main_v50))
            ∗ ((c, Proc.devRef .tc main_arg0) ↦{fullShare} last m c (Proc.devRef .tc main_arg0))
            ∗ ((c, Proc.devRef .tc main_arg1) ↦{fullShare} last m c (Proc.devRef .tc main_arg1))
            ∗ ((c, Proc.devRef .tc main_arg2) ↦{fullShare} last m c (Proc.devRef .tc main_arg2))
            ∗ ((c, Proc.devRef .tc main_arg3) ↦{fullShare} last m c (Proc.devRef .tc main_arg3))
            ∗ ((c, Proc.devRef .tc main_arg4) ↦{fullShare} last m c (Proc.devRef .tc main_arg4)))
          from bigSep_eq_bigSepL_of_eq readList rfl read_nodup (Φ := fun b => ((c, b) ↦{fullShare} last m c b : sProp 𝕄))]
      iintro ⟨⟨⟨⟨H0, H1, H2, H3, H4, H5⟩, -⟩, Hb0⟩, HSI⟩
      icombine HSI H0 gives %h0
      icombine HSI H1 gives %h1
      icombine HSI H2 gives %h2
      icombine HSI H3 gives %h3
      icombine HSI H4 gives %h4
      icombine HSI H5 gives %h5
      icombine HSI Hb0 gives %hb
      imodintro
      isplitr
      · ipureintro
        exact ⟨⟨Buf.eq_of_forall_mem_univ h0, Buf.eq_of_forall_mem_univ h1, Buf.eq_of_forall_mem_univ h2, Buf.eq_of_forall_mem_univ h3,
          Buf.eq_of_forall_mem_univ h4, Buf.eq_of_forall_mem_univ h5⟩, by simpa using hb⟩
      iexact HSI)
    (hQ := fun s h hs => ⟨fun c => by
        obtain ⟨⟨h0, h1, h2, h3, h4, h5⟩, -⟩ := h c
        exact ⟨h0.trans (last_v50 m c), h1.trans ((last_arg m c main_arg0 (by decide) (by decide)).trans (V_main_arg0 m c)),
          h2.trans ((last_arg m c main_arg1 (by decide) (by decide)).trans (V_main_arg1 m c)),
          h3.trans ((last_arg m c main_arg2 (by decide) (by decide)).trans (V_main_arg2 m c)),
          h4.trans ((last_arg m c main_arg3 (by decide) (by decide)).trans (V_main_arg3 m c)),
          h5.trans ((last_arg m c main_arg4 (by decide) (by decide)).trans (V_main_arg4 m c))⟩,
      sem_eq_zero hs fun c sm hsm => by
        obtain rfl := unscoped_eq sm hsm
        exact (h c).2⟩)

end Cert.KernelIdeal.Own
-- ==== Proof.Value.Spec.lean ====
/-
  Rotary attention on the reals, as plain functions of rows and columns: what both programs are shown to compute.
-/
module

public import Idealize.ShloMosaic.Lib.Pointwise

@[expose] public section

noncomputable section

namespace Cert.Attention

open Idealize.ShloMosaic

/-- The angle at position `i` of the pair of columns `p`. -/
def angle (i : Fin 128) (p : Fin 32) : EReal :=
  FloatOps.sitofp (F := Ideal) FTy.f32 (BitVec.ofNat 32 i.val) *
    Ideal.div 1 (Ideal.pow (Ideal.ofBits .f32 0x461C4000#32)
      (Ideal.div (FloatOps.sitofp (F := Ideal) FTy.f32 (IntOp.addi 0#32 (IntOp.muli 2#32 (BitVec.ofNat 32 p.val)))) (Ideal.ofBits .f32 0x42800000#32)))

/-- Column `e` is one of the pair `e / 2`. -/
def pair (e : Fin 64) : Fin 32 := ⟨e.val / 2, by omega⟩

/-- A head's column turned a quarter: the second of its pair negated, then the first. -/
def turned (t : Fin 64 → EReal) (e : Fin 64) : EReal :=
  if e.val % 2 < 1 then -t ⟨e.val / 2 * 2 + 1, by omega⟩ else t ⟨e.val / 2 * 2, by omega⟩

/-- A head's rows, rotated by their positions' angles. -/
def rotate (t : Fin 128 → Fin 64 → EReal) (i : Fin 128) (e : Fin 64) : EReal :=
  t i e * Ideal.cos (angle i (pair e)) + turned (t i) e * Ideal.sin (angle i (pair e))

/-- The softmax of a row of scores. -/
def softmax (s : Fin 128 → EReal) (j : Fin 128) : EReal :=
  Ideal.div (Ideal.exp (s j - Finset.fold max (Ideal.ofBits .f32 0xFF800000#32) s Finset.univ))
    (∑ l, Ideal.exp (s l - Finset.fold max (Ideal.ofBits .f32 0xFF800000#32) s Finset.univ))

/-- The scaled scores. -/
def scores (q k : Fin 128 → Fin 64 → EReal) (i j : Fin 128) : EReal := (∑ e, q i e * k j e) * Ideal.ofBits .f32 0x3E000000#32

/-- One head's attention. -/
def attend (q k v : Fin 128 → Fin 64 → EReal) (i : Fin 128) (e : Fin 64) : EReal := ∑ j, softmax (scores q k i) j * v j e

/-- Column `e` of head `h`. -/
def col (h : Fin 16) (e : Fin 64) : Fin 1024 := ⟨h.val * 64 + e.val, by omega⟩

/-- A head's projection of one batch. -/
def project (x : Fin 128 → Fin 512 → EReal) (w : Fin 512 → Fin 1024 → EReal) (h : Fin 16) (i : Fin 128) (e : Fin 64) : EReal :=
  ∑ k, x i k * w k (col h e)

/-- The heads of one batch, side by side. -/
def heads (x : Fin 128 → Fin 512 → EReal) (wq wk wv : Fin 512 → Fin 1024 → EReal) (i : Fin 128) (c : Fin 1024) : EReal :=
  attend (rotate (project x wq ⟨c.val / 64, by omega⟩)) (rotate (project x wk ⟨c.val / 64, by omega⟩)) (project x wv ⟨c.val / 64, by omega⟩)
    i ⟨c.val % 64, by omega⟩

/-- The whole layer of one batch. -/
def layer (x : Fin 128 → Fin 512 → EReal) (wq wk wv : Fin 512 → Fin 1024 → EReal) (wo : Fin 1024 → Fin 512 → EReal) (i : Fin 128) (j : Fin 512) : EReal :=
  ∑ c, heads x wq wk wv i c * wo c j

end Cert.Attention
-- ==== Proof.Value.Payload.lean ====
/-
  The kernel's pieces on the reals, read one element at a time: the rotated projections, an attention block, a device's share of the
  output product, the summed quarters and the result.
-/
module

public import proofs.«01_k».proof.Proof.KernelIdeal.Contents
public import proofs.«01_k».proof.Proof.Value.Spec

@[expose] public section

set_option maxRecDepth 16384

noncomputable section

namespace Cert.KernelIdeal.Own

open Idealize.ShloMosaic Idealize.ShloMosaic.TcCoe
open Cert.KernelIdeal Cert.KernelIdeal.Gen

variable (o : Ops Ideal)

theorem qRot_apply (r c : Fin 256) : qRot o (ix2 r c) = (∑ k : Fin 512, o.x (ix2 r k) * o.wq (ix2 k c)) * o.cs (ix2 r c)
    + (∑ c' : Fin 256, (∑ k : Fin 512, o.x (ix2 r k) * o.wq (ix2 k c')) * o.sw (ix2 c' c)) * o.sn (ix2 r c) := by
  pointwise [qRot, k0_pay8, k0_pay5, k0_pay6, k0_pay7, k0_pay2, k0_pay1]
theorem kRot_apply (r c : Fin 256) : kRot o (ix2 r c) = (∑ k : Fin 512, o.x (ix2 r k) * o.wk (ix2 k c)) * o.cs (ix2 r c)
    + (∑ c' : Fin 256, (∑ k : Fin 512, o.x (ix2 r k) * o.wk (ix2 k c')) * o.sw (ix2 c' c)) * o.sn (ix2 r c) := by
  pointwise [kRot, k0_pay9, k0_pay3, k0_pay1]
theorem vPro_apply (r c : Fin 256) : vPro o (ix2 r c) = ∑ k : Fin 512, o.x (ix2 r k) * o.wv (ix2 k c) := by
  pointwise [vPro, k0_pay10, k0_pay4, k0_pay1]

/-- A row of a batch, and a column of one of this device's heads, in a projection. -/
def row (b : Fin 2) (i : Fin 128) : Fin 256 := ⟨128 * b.val + i.val, by omega⟩
def mine (h : Fin 4) (e : Fin 64) : Fin 256 := ⟨64 * h.val + e.val, by omega⟩

theorem blk_apply (y : FVec Ideal S256x256 .bf16) (b : Fin 2) (h : Fin 4) (i : Fin 128) (e : Fin 64) : blk y b h (ix2 i e) = y (ix2 (row b i) (mine h e)) := by
  pointwise [blk, row, mine]
theorem attn_apply (q k v : FVec Ideal S128x64 .bf16) (i : Fin 128) (e : Fin 64) :
    attn q k v (ix2 i e) = Attention.attend (fun i e => q (ix2 i e)) (fun i e => k (ix2 i e)) (fun i e => v (ix2 i e)) i e := by
  pointwise [attn, k0_pay14, Attention.attend, Attention.softmax, Attention.scores]

theorem ctxV_apply (r c : Fin 256) : ctxV o (ix2 r c)
    = Attention.attend (fun i e => qRot o (ix2 (row ⟨r.val / 128, by omega⟩ i) (mine ⟨c.val / 64, by omega⟩ e)))
        (fun i e => kRot o (ix2 (row ⟨r.val / 128, by omega⟩ i) (mine ⟨c.val / 64, by omega⟩ e)))
        (fun i e => vPro o (ix2 (row ⟨r.val / 128, by omega⟩ i) (mine ⟨c.val / 64, by omega⟩ e)))
        ⟨r.val % 128, by omega⟩ ⟨c.val % 64, by omega⟩ := by
  show attn (blk (qRot o) ⟨r.val / 128, _⟩ ⟨c.val / 64, _⟩) (blk (kRot o) ⟨r.val / 128, _⟩ ⟨c.val / 64, _⟩) (blk (vPro o) ⟨r.val / 128, _⟩ ⟨c.val / 64, _⟩)
    (ix2 (⟨r.val % 128, by omega⟩ : Fin 128) (⟨c.val % 64, by omega⟩ : Fin 64)) = _
  rw [attn_apply]
  simp only [blk_apply]

theorem partV_apply (c : Fin 4) (r : Fin 64) (j : Fin 512) :
    partV o (ix3 c r j) = ∑ k : Fin 256, ctxV o (ix2 (⟨64 * c.val + r.val, by omega⟩ : Fin 256) k) * o.wo (ix2 k j) := by
  pointwise [partV, k0_pay29]

/-- A quarter holds the sum of the four devices' shares of it. -/
theorem sumV_apply (pb : Dev nD → Vec Ideal S4x64x512 .bf16) (c : Dev nD) (r : Fin 64) (j : Fin 512) :
    sumV pb c (ix3 0 r j) = ∑ d : Dev nD, pb d (ix3 c r j) := by
  have h : sumV pb c (ix3 0 r j) = pb c (ix3 c r j) + pb (pe c 1) (ix3 c r j) + (pb (pe c 2) (ix3 c r j) + pb (pe c 3) (ix3 c r j)) := by
    pointwise [sumV, k0_pay34, k0_pay35, slotVec, recvV]
    rfl
  rw [h]
  generalize hf : (fun d => pb d (ix3 c r j)) = f
  have h4 : ∀ d, pb d (ix3 c r j) = f d := fun d => congrFun hf d
  simp only [h4]
  clear h4 hf h
  show _ = ∑ d : Fin 4, f d
  rw [Fin.sum_univ_four]
  fin_cases c
  · show f 0 + f 1 + (f 2 + f 3) = _; ac_rfl
  · show f 1 + f 2 + (f 3 + f 0) = _; ac_rfl
  · show f 2 + f 3 + (f 0 + f 1) = _; ac_rfl
  · show f 3 + f 0 + (f 1 + f 2) = _; ac_rfl

theorem outV_apply (g : Vec Ideal S4x64x512 .bf16) (r : Fin 256) (j : Fin 512) :
    outV g (ix2 r j) = g (ix3 (⟨r.val / 64, by omega⟩ : Fin 4) (⟨r.val % 64, by omega⟩ : Fin 64) j) := by
  pointwise [outV, k0_pay36, slotVec]
  rfl

/-- The result is the sum over the devices of their shares of the output product. -/
theorem out_apply (os : Dev nD → Ops Ideal) (r : Fin 256) (j : Fin 512) :
    outV (gathV fun d => partV (os d)) (ix2 r j) = ∑ d : Dev nD, ∑ k : Fin 256, ctxV (os d) (ix2 r k) * (os d).wo (ix2 k j) := by
  rw [outV_apply]
  show sumV (fun d => partV (os d)) (⟨r.val / 64, by omega⟩ : Fin 4) (ix3 0 (⟨r.val % 64, by omega⟩ : Fin 64) j) = _
  rw [sumV_apply]
  refine Finset.sum_congr rfl fun d _ => ?_
  rw [partV_apply]
  have h : (⟨64 * (r.val / 64) + r.val % 64, by omega⟩ : Fin 256) = r := Fin.ext (Nat.div_add_mod _ _)
  simp only [h]

end Cert.KernelIdeal.Own
-- ==== Proof.Value.Host.lean ====
/-
  What the host lines before the kernel leave in the four operands they write: the input as one matrix of rows, the cosine table, the
  signed sine table, and the matrix that exchanges the two columns of each pair.
-/
module

public import proofs.«01_k».proof.Proof.KernelIdeal.Region
public import Idealize.ShloMosaic.Lib.StableHlo.ReadAt
public import Idealize.ShloMosaic.Lib.IdealHost
public import proofs.«01_k».proof.Proof.Value.Spec

@[expose] public section

set_option maxRecDepth 16384

noncomputable section

namespace Cert.KernelIdeal.Own

open Idealize.ShloMosaic Idealize.ShloMosaic.TcCoe
open Cert.KernelIdeal Cert.KernelIdeal.Gen

variable (m : (ℓ : Loc nD τ sig) → Buf (Elt Ideal) ℓ)

theorem x_at (d : Dev nD) (r : Fin 256) (k : Fin 512) :
    V m d main_v47 (ix2 r k) = m (d.tc.loc main_arg0) (ix3 (⟨r.val / 128, by omega⟩ : Fin 2) (⟨r.val % 128, by omega⟩ : Fin 128) k) := by
  unfold V V0
  after_reads_at

/-- The cosine table: one row per position in each batch, one column per column of each head. -/
theorem cs_at (d : Dev nD) (r c : Fin 256) : V m d main_v34 (ix2 r c)
    = Ideal.cos (Attention.angle ⟨r.val % 128, by omega⟩ (Attention.pair ⟨c.val % 64, by omega⟩)) := by
  unfold V V0
  after_reads_at
  rfl

theorem sign_at (c : Fin 256) (h : c.val % 64 % 2 < 2) :
    Ideal.ofBits .f32 (lit0 (S2.rowMajor (ix1 (⟨c.val % 64 % 2, h⟩ : Fin 2)))) = if c.val % 2 < 1 then -1 else 1 := by
  rcases Nat.mod_two_eq_zero_or_one c.val with h0 | h1
  · rw [if_pos (by omega), show (⟨c.val % 64 % 2, h⟩ : Fin 2) = 0 from Fin.ext (by show c.val % 64 % 2 = 0; omega)]
    show Ideal.ofBits .f32 0xBF800000#32 = -1
    rw [show (-1 : EReal) = ((-(1 : ℝ) : ℝ) : EReal) by rw [EReal.coe_neg, EReal.coe_one]]
    simp [Ideal.ofBits, Ideal.ieee, -EReal.coe_mul, -EReal.coe_neg]; norm_num
  · rw [if_neg (by omega), show (⟨c.val % 64 % 2, h⟩ : Fin 2) = 1 from Fin.ext (by show c.val % 64 % 2 = 1; omega)]
    show Ideal.ofBits .f32 0x3F800000#32 = 1
    exact Ideal.ofBits_one_f32

/-- The sine table, the first column of each pair negated. -/
theorem sn_at (d : Dev nD) (r c : Fin 256) : V m d main_v37 (ix2 r c)
    = (Ideal.sin (Attention.angle ⟨r.val % 128, by omega⟩ (Attention.pair ⟨c.val % 64, by omega⟩)) * (if c.val % 2 < 1 then -1 else 1) : EReal) := by
  unfold V V0
  after_reads_at
  rw [sign_at]
  rfl

/-- The other column of a column's pair. -/
def other (c : Fin 256) : Fin 256 := ⟨if c.val % 2 < 1 then c.val + 1 else c.val - 1, by split <;> omega⟩

theorem other_word : ∀ r : Fin 256, IntOp.xori (BitVec.ofNat 32 r.val) 1#32 = BitVec.ofNat 32 (other r).val := by decide +kernel

theorem eq_other (r c : Fin 256) : c = other r ↔ r = other c := by
  simp only [other, Fin.ext_iff]
  split <;> split <;> omega

/-- The exchange matrix. -/
theorem sw_at (d : Dev nD) (r c : Fin 256) : V m d main_v48 (ix2 r c) = ((if r = other c then 1 else 0 : ℝ) : EReal) := by
  unfold V V0
  after_reads_at
  rw [other_word]
  have h : IntOp.cmpi CmpIPredicate.eq (BitVec.ofNat 32 c.val) (BitVec.ofNat 32 (other r).val) = BitVec.ofBool (decide (r = other c)) := by
    show BitVec.ofBool (BitVec.ofNat 32 c.val == BitVec.ofNat 32 (other r).val) = _
    congr 1
    rw [Bool.beq_eq_decide_eq]
    congr 1
    rw [← eq_other, eq_iff_iff, Fin.ext_iff]
    constructor
    · intro e
      have e' := congrArg BitVec.toNat e
      simp only [BitVec.toNat_ofNat] at e'
      have := (other r).isLt
      omega
    · intro e; rw [e]
  rw [h]
  show (((BitVec.ofBool (decide (r = other c))).toNat : ℝ) : EReal) = _
  by_cases e : r = other c <;> simp [e]

end Cert.KernelIdeal.Own
-- ==== Proof.ReferenceIdeal.Frame.lean ====
/-
  The reference leaves its arguments as they were. It has no counter.
-/
module

public import proofs.«01_k».proof.Defs
public import proofs.«01_k».proof.Proof.Gen.ReferenceIdeal
public import Idealize.ShloMosaic.Lib.StableHlo.RunHlo
public import Idealize.ShloMosaic.Lib.Claim
public import Idealize.ShloMosaic.Lib.Quiescent

@[expose] public section

noncomputable section

namespace Cert.ReferenceIdeal.Own

open Idealize.ShloMosaic Idealize.ShloMosaic.TcCoe Idealize.SL.Sem
open Cert.ReferenceIdeal Cert.ReferenceIdeal.Gen

theorem frame : Cert.quiescent_ReferenceIdeal := by
  intro m g hpre
  hlo_run
  · exact fun _ => ⟨trivial, trivial, trivial, trivial, trivial⟩
  · exact sem_eq_zero_of_no_sems (by decide : Cert.ReferenceIdeal.sig.nSem + Cert.ReferenceIdeal.sig.nDmaSem = 0) _

end Cert.ReferenceIdeal.Own
-- ==== Proof.Value.Ref.lean ====
/-
  The reference on the reals. Its run leaves `refOut` of its arguments, a composition of the few stages below; each stage is then read
  one element at a time.
-/
module

public import proofs.«01_k».proof.Proof.ReferenceIdeal.Frame
public import proofs.«01_k».proof.Proof.Value.Spec

@[expose] public section

set_option maxRecDepth 16384

noncomputable section

namespace Cert.ReferenceIdeal.Own

open Idealize.ShloMosaic Idealize.ShloMosaic.TcCoe Idealize.SL.Sem
open Cert.ReferenceIdeal Cert.ReferenceIdeal.Gen

/-- The angle of each position and each pair of columns. -/
def angle : FVec Ideal S128x32 .f32 :=
  mulf (broadcastInDim S128x32 ![0, 1] bcast_S128x1_S128x32_0_1 (sitofp .f32 (broadcastInDim S128x1 ![0] bcast_S128_S128x1_0 (iotaInDim S128 32 0))))
    (broadcastInDim S128x32 ![0, 1] bcast_S1x32_S128x32_0_1 (broadcastInDim S1x32 ![1] bcast_S32_S1x32_1
      (Host.divf (broadcastInDim S32 ![] bcast_S_S32 (constant S_ .f32 0x3F800000#32))
        (Host.powf (broadcastInDim S32 ![] bcast_S_S32 (constant S_ .f32 0x461C4000#32))
          (Host.divf (sitofp .f32 (addi (broadcastInDim S32 ![] bcast_S_S32 (constantI S_ 32 0#32))
              (muli (broadcastInDim S32 ![] bcast_S_S32 (constantI S_ 32 2#32)) (iotaInDim S32 32 0))))
            (broadcastInDim S32 ![] bcast_S_S32 (constant S_ .f32 0x42800000#32)))))))

/-- A table over pairs of columns, each entry written twice. -/
def twice (f : FVec Ideal S128x32 .f32) : FVec Ideal S128x64 .f32 :=
  shapeCast S128x64 (broadcastInDim S128x32x2 ![0, 1] bcast_S128x32_S128x32x2_0_1 f) shapeCasts_S128x32x2_S128x64

/-- A projection, by heads. -/
def proj (x : FVec Ideal S2x128x512 .bf16) (w : FVec Ideal S512x1024 .bf16) : FVec Ideal S2x128x16x64 .bf16 :=
  shapeCast S2x128x16x64 (truncf .bf16 (Host.dotGeneral dot_S2x128x512_S512x1024_S2x128x1024_2_0_01_1_n_n none x w : FVec Ideal S2x128x1024 .f32) bitsLt_bf16_f32)
    shapeCasts_S2x128x1024_S2x128x16x64

/-- Each pair of columns turned a quarter: the second negated, then the first. -/
def turned (t : FVec Ideal S2x128x16x64 .bf16) : FVec Ideal S2x128x16x64 .bf16 :=
  shapeCast S2x128x16x64 (concatenate S2x128x16x32x2 4
    [⟨S2x128x16x32x1, broadcastInDim S2x128x16x32x1 ![0, 1, 2, 3] bcast_S2x128x16x32_S2x128x16x32x1_0_1_2_3
        (Host.negf (shapeCast S2x128x16x32 (extractStridedSlice S2x128x16x32x1 ![0, 0, 0, 0, 1]
          (shapeCast S2x128x16x32x2 t shapeCasts_S2x128x16x64_S2x128x16x32x2) slices_S2x128x16x32x2_S2x128x16x32x1_0_0_0_0_1)
          shapeCasts_S2x128x16x32x1_S2x128x16x32))⟩,
     ⟨S2x128x16x32x1, broadcastInDim S2x128x16x32x1 ![0, 1, 2, 3] bcast_S2x128x16x32_S2x128x16x32x1_0_1_2_3
        (shapeCast S2x128x16x32 (extractStridedSlice S2x128x16x32x1 ![0, 0, 0, 0, 0]
          (shapeCast S2x128x16x32x2 t shapeCasts_S2x128x16x64_S2x128x16x32x2) slices_S2x128x16x32x2_S2x128x16x32x1_0_0_0_0_0)
          shapeCasts_S2x128x16x32x1_S2x128x16x32)⟩]
    concatenates_S2x128x16x32x1_S2x128x16x32x1_S2x128x16x32x2_d4) shapeCasts_S2x128x16x32x2_S2x128x16x64

/-- A table of positions and columns, read at every batch and head. -/
def spread (f : FVec Ideal S128x64 .f32) : FVec Ideal S2x128x16x64 .f32 :=
  broadcastInDim S2x128x16x64 ![0, 1, 2, 3] bcast_S1x128x1x64_S2x128x16x64_0_1_2_3 (broadcastInDim S1x128x1x64 ![1, 3] bcast_S128x64_S1x128x1x64_1_3 f)

/-- A projection, rotated by the position's angles. -/
def rotary (t : FVec Ideal S2x128x16x64 .bf16) : FVec Ideal S2x128x16x64 .f32 :=
  addf (mulf (extf .f32 t bitsLt_bf16_f32) (spread (twice (Host.cos angle))))
    (mulf (extf .f32 (turned t) bitsLt_bf16_f32) (spread (twice (Host.sin angle))))

/-- The scores. -/
def score (q k : FVec Ideal S2x128x16x64 .f32) : FVec Ideal S2x16x128x128 .f32 :=
  mulf (Host.dotGeneral dot_S2x128x16x64_S2x128x16x64_S2x16x128x128_3_3_1_1_02_02 none q k)
    (broadcastInDim S2x16x128x128 ![] bcast_S_S2x16x128x128 (constant S_ .f32 0x3E000000#32))

/-- A number per row, read at every column. -/
def rows (f : FVec Ideal S2x16x128 .f32) : FVec Ideal S2x16x128x128 .f32 :=
  broadcastInDim S2x16x128x128 ![0, 1, 2, 3] bcast_S2x16x128x1_S2x16x128x128_0_1_2_3 (broadcastInDim S2x16x128x1 ![0, 1, 2] bcast_S2x16x128_S2x16x128x1_0_1_2 f)

/-- The exponentials of a row of scores, less the row's greatest. -/
def expo (s : FVec Ideal S2x16x128x128 .f32) : FVec Ideal S2x16x128x128 .f32 :=
  Host.exp (subf s (rows (Host.reduce FloatOps.maximumf s (constant S_ .f32 0xFF800000#32) reducesTo_S2x16x128x128_S2x16x128_d3 h_S_)))

/-- The row softmax. -/
def soft (e : FVec Ideal S2x16x128x128 .f32) : FVec Ideal S2x16x128x128 .f32 :=
  Host.divf e (rows (Host.reduceAdd e (constant S_ .f32 0x00000000#32) reducesTo_S2x16x128x128_S2x16x128_d3 h_S_))

/-- The weighted sums of the values, the heads side by side, times the output weights. -/
def mix (v : FVec Ideal S2x128x16x64 .bf16) (w : FVec Ideal S2x16x128x128 .f32) : FVec Ideal S2x128x1024 .f32 :=
  shapeCast S2x128x1024 (transpose S2x128x16x64 [0, 3, 1, 2]
    (Host.dotGeneral dot_S2x128x16x64_S2x16x128x128_S2x16x64x128_1_3_3_2_02_01 none v w : FVec Ideal S2x16x64x128 .f32) transposes_S2x16x64x128_S2x128x16x64_0_3_1_2)
    shapeCasts_S2x128x16x64_S2x128x1024

/-- The reference's result. -/
def refOut (x : FVec Ideal S2x128x512 .bf16) (wq wk wv : FVec Ideal S512x1024 .bf16) (wo : FVec Ideal S1024x512 .bf16) : FVec Ideal S2x128x512 .f32 :=
  Host.dotGeneral dot_S2x128x1024_S1024x512_S2x128x512_2_0_01_1_n_n none
    (mix (proj x wv) (soft (expo (score (rotary (proj x wq)) (rotary (proj x wk)))))) wo

/-- The reference's run leaves its result and its arguments as they were. -/
theorem ref_run (m' : (ℓ : Loc nD τ sig) → Buf (Elt Ideal) ℓ) (g' : Dev nD → PrngReg) (X : FVec Ideal S2x128x512 .f32)
    (hX : refOut (m' ((0 : Dev nD).tc.loc main_arg0)) (m' ((0 : Dev nD).tc.loc main_arg1)) (m' ((0 : Dev nD).tc.loc main_arg2))
      (m' ((0 : Dev nD).tc.loc main_arg3)) (m' ((0 : Dev nD).tc.loc main_arg4)) = X) :
    θ_run (defs (F := Ideal)) (onTc (τ := τ) (main (F := Ideal))) ⟨m', fun _ => 0, g'⟩ (fun r =>
          r.2.mem ((0 : Dev nD).tc.loc main_v87) = X
          ∧ r.2.mem ((0 : Dev nD).tc.loc main_arg0) = m' ((0 : Dev nD).tc.loc main_arg0)
          ∧ r.2.mem ((0 : Dev nD).tc.loc main_arg1) = m' ((0 : Dev nD).tc.loc main_arg1)
          ∧ r.2.mem ((0 : Dev nD).tc.loc main_arg2) = m' ((0 : Dev nD).tc.loc main_arg2)
          ∧ r.2.mem ((0 : Dev nD).tc.loc main_arg3) = m' ((0 : Dev nD).tc.loc main_arg3)
          ∧ r.2.mem ((0 : Dev nD).tc.loc main_arg4) = m' ((0 : Dev nD).tc.loc main_arg4)) := by
  hlo_run
  exact hX

section At
variable (b : Fin 2) (i : Fin 128) (h : Fin 16) (e : Fin 64)

theorem angle_apply (p : Fin 32) : angle (ix2 i p) = Attention.angle i p := by
  pointwise [angle, Attention.angle]
theorem twice_apply (f : FVec Ideal S128x32 .f32) : twice f (ix2 i e) = f (ix2 i (Attention.pair e)) := by
  pointwise [twice, Attention.pair]
theorem proj_apply (x : FVec Ideal S2x128x512 .bf16) (w : FVec Ideal S512x1024 .bf16) :
    proj x w (ix4 b i h e) = Attention.project (fun i k => x (ix3 b i k)) (fun k c => w (ix2 k c)) h i e := by
  pointwise [proj, Attention.project, Attention.col]
theorem turned_apply (t : FVec Ideal S2x128x16x64 .bf16) : turned t (ix4 b i h e) = Attention.turned (fun e => t (ix4 b i h e)) e := by
  pointwise [turned, Attention.turned]
  split <;> rfl
theorem spread_apply (f : FVec Ideal S128x64 .f32) : spread f (ix4 b i h e) = f (ix2 i e) := by
  pointwise [spread]
theorem rotary_apply (t : FVec Ideal S2x128x16x64 .bf16) :
    rotary t (ix4 b i h e) = Attention.rotate (fun i e => t (ix4 b i h e)) i e := by
  pointwise [rotary, Attention.rotate, spread_apply, turned_apply, twice_apply, angle_apply]
theorem score_apply (q k : FVec Ideal S2x128x16x64 .f32) (j : Fin 128) :
    score q k (ix4 b h i j) = Attention.scores (fun i e => q (ix4 b i h e)) (fun i e => k (ix4 b i h e)) i j := by
  pointwise [score, Attention.scores]
theorem soft_apply (s : FVec Ideal S2x16x128x128 .f32) (j : Fin 128) :
    soft (expo s) (ix4 b h i j) = Attention.softmax (fun l => s (ix4 b h i l)) j := by
  pointwise [soft, expo, rows, Attention.softmax]

end At

theorem mix_apply (v : FVec Ideal S2x128x16x64 .bf16) (w : FVec Ideal S2x16x128x128 .f32) (b : Fin 2) (i : Fin 128) (c : Fin 1024) :
    mix v w (ix3 b i c) = ∑ x, v (ix4 b x (⟨c.val / 64, by omega⟩ : Fin 16) (⟨c.val % 64, by omega⟩ : Fin 64)) * w (ix4 b (⟨c.val / 64, by omega⟩ : Fin 16) i x) := by
  pointwise [mix]

/-- The reference computes the layer. -/
theorem refOut_apply (x : FVec Ideal S2x128x512 .bf16) (wq wk wv : FVec Ideal S512x1024 .bf16) (wo : FVec Ideal S1024x512 .bf16)
    (b : Fin 2) (i : Fin 128) (j : Fin 512) :
    refOut x wq wk wv wo (ix3 b i j) = Attention.layer (fun i k => x (ix3 b i k)) (fun k c => wq (ix2 k c)) (fun k c => wk (ix2 k c)) (fun k c => wv (ix2 k c))
      (fun c j => wo (ix2 c j)) i j := by
  pointwise [refOut]
  unfold Attention.layer
  refine Finset.sum_congr rfl fun c _ => congrArg (· * _) ?_
  rw [mix_apply]
  unfold Attention.heads Attention.attend
  refine Finset.sum_congr rfl fun l _ => ?_
  rw [soft_apply, proj_apply]
  simp only [score_apply, rotary_apply, proj_apply]
  exact mul_comm _ _

end Cert.ReferenceIdeal.Own
-- ==== Proof.Value.Both.lean ====
/-
  The two programs compute the same layer: each device's blocks are the whole layer's heads, the exchange matrix and the signed sines make
  the quarter turn, and the sum over the devices of their shares is the sum over all the columns.
-/
module

public import proofs.«01_k».proof.Proof.KernelIdeal.Whole
public import proofs.«01_k».proof.Proof.Value.Payload
public import proofs.«01_k».proof.Proof.Value.Host
public import proofs.«01_k».proof.Proof.Value.Ref
public import Idealize.ShloMosaic.Lib.LayoutAt

@[expose] public section

set_option maxRecDepth 16384

noncomputable section

namespace Cert.KernelIdeal.Own

open Idealize.ShloMosaic Idealize.ShloMosaic.TcCoe Idealize.SL.Sem
open Cert.KernelIdeal Cert.KernelIdeal.Gen

theorem tiles_cols : Layout.Tiles ⟨2, ![512, 256]⟩ ⟨2, ![512, 1024]⟩ 1 4 := by decide
theorem tiles_rows : Layout.Tiles ⟨2, ![256, 512]⟩ ⟨2, ![1024, 512]⟩ 0 4 := by decide

/-- Head `h` of device `d`, among all the heads. -/
def headOf (d : Fin 4) (h : Fin 4) : Fin 16 := ⟨4 * d.val + h.val, by omega⟩

/-- Column `k` of device `d`, among all the columns. -/
def colOf (d : Fin 4) (k : Fin 256) : Fin 1024 := ⟨256 * d.val + k.val, by omega⟩

theorem col_headOf (d h : Fin 4) (e : Fin 64) : Attention.col (headOf d h) e = colOf d (mine h e) :=
  Fin.ext (by show (4 * d.val + h.val) * 64 + e.val = 256 * d.val + (64 * h.val + e.val); omega)

/-- The exchange matrix and the signed sine make the quarter turn. -/
theorem turn (t : Fin 256 → EReal) (h : Fin 4) (e : Fin 64) (s : EReal) :
    (∑ c', t c' * ((if c' = other (mine h e) then 1 else 0 : ℝ) : EReal)) * (s * (if (mine h e).val % 2 < 1 then -1 else 1))
      = Attention.turned (fun e => t (mine h e)) e * s := by
  have hs : (∑ c', t c' * ((if c' = other (mine h e) then 1 else 0 : ℝ) : EReal)) = t (other (mine h e)) := by
    rw [Finset.sum_eq_single (other (mine h e))]
    · simp
    · intro c _ hc; simp [hc]
    · intro hc; exact absurd (Finset.mem_univ _) hc
  have hm : (mine h e).val % 2 = e.val % 2 := by show (64 * h.val + e.val) % 2 = _; omega
  rw [hs, hm]
  unfold Attention.turned
  by_cases h0 : e.val % 2 < 1
  · rw [if_pos h0, if_pos h0]
    have : other (mine h e) = mine h ⟨e.val / 2 * 2 + 1, by omega⟩ := by
      apply Fin.ext
      show (if (mine h e).val % 2 < 1 then (mine h e).val + 1 else (mine h e).val - 1) = 64 * h.val + (e.val / 2 * 2 + 1)
      rw [hm, if_pos h0]
      show 64 * h.val + e.val + 1 = _
      omega
    rw [this, mul_neg, mul_neg, mul_one, neg_mul]
  · rw [if_neg h0, if_neg h0]
    have : other (mine h e) = mine h ⟨e.val / 2 * 2, by omega⟩ := by
      apply Fin.ext
      show (if (mine h e).val % 2 < 1 then (mine h e).val + 1 else (mine h e).val - 1) = 64 * h.val + e.val / 2 * 2
      rw [hm, if_neg h0]
      show 64 * h.val + e.val - 1 = _
      omega
    rw [this, mul_one]

section One
variable (m : (ℓ : Loc nD τ sig) → Buf (Elt Ideal) ℓ) (d : Dev nD)
variable (x : FVec Ideal ⟨3, ![2, 128, 512]⟩ .bf16) (wq wk wv : FVec Ideal ⟨2, ![512, 1024]⟩ .bf16) (wo : FVec Ideal ⟨2, ![1024, 512]⟩ .bf16)
variable (hx : m (d.tc.loc main_arg0) = x)
variable (hq : m (d.tc.loc main_arg1) = Layout.block ⟨2, ![512, 256]⟩ ⟨2, ![512, 1024]⟩ 1 4 d wq tiles_cols)
variable (hk : m (d.tc.loc main_arg2) = Layout.block ⟨2, ![512, 256]⟩ ⟨2, ![512, 1024]⟩ 1 4 d wk tiles_cols)
variable (hv : m (d.tc.loc main_arg3) = Layout.block ⟨2, ![512, 256]⟩ ⟨2, ![512, 1024]⟩ 1 4 d wv tiles_cols)
variable (ho : m (d.tc.loc main_arg4) = Layout.block ⟨2, ![256, 512]⟩ ⟨2, ![1024, 512]⟩ 0 4 d wo tiles_rows)

theorem cols_at (d : Fin 4) (w : FVec Ideal ⟨2, ![512, 1024]⟩ .bf16) (k : Fin 512) (c : Fin 256) :
    (Layout.block ⟨2, ![512, 256]⟩ ⟨2, ![512, 1024]⟩ 1 4 d w tiles_cols : FVec Ideal ⟨2, ![512, 256]⟩ .bf16) (ix2 k c) = w (ix2 k (colOf d c)) := by
  unfold colOf
  shard_ext
theorem rows_at (d : Fin 4) (w : FVec Ideal ⟨2, ![1024, 512]⟩ .bf16) (c : Fin 256) (j : Fin 512) :
    (Layout.block ⟨2, ![256, 512]⟩ ⟨2, ![1024, 512]⟩ 0 4 d w tiles_rows : FVec Ideal ⟨2, ![256, 512]⟩ .bf16) (ix2 c j) = w (ix2 (colOf d c) j) := by
  unfold colOf
  shard_ext

include hx in
theorem x_row (b : Fin 2) (i : Fin 128) (k : Fin 512) : (opsAt m d).x (ix2 (row b i) k) = x (ix3 b i k) := by
  show V m d main_v47 (ix2 (row b i) k) = _
  rw [x_at, hx]
  congr 2 <;> apply Fin.ext
  · show (128 * b.val + i.val) / 128 = b.val; omega
  · show (128 * b.val + i.val) % 128 = i.val; omega

theorem at_row (b : Fin 2) (i : Fin 128) : (⟨(row b i).val % 128, by omega⟩ : Fin 128) = i :=
  Fin.ext (by show (128 * b.val + i.val) % 128 = i.val; omega)
theorem at_mine (h : Fin 4) (e : Fin 64) : (⟨(mine h e).val % 64, by omega⟩ : Fin 64) = e :=
  Fin.ext (by show (64 * h.val + e.val) % 64 = e.val; omega)

include hx in
/-- A device's projection, by its heads. -/
theorem project_at (b : Fin 2) (w : FVec Ideal ⟨2, ![512, 256]⟩ .bf16) (W : FVec Ideal ⟨2, ![512, 1024]⟩ .bf16)
    (hw : ∀ k c, w (ix2 k c) = W (ix2 k (colOf d c))) (h : Fin 4) (i : Fin 128) (e : Fin 64) :
    ∑ k : Fin 512, (opsAt m d).x (ix2 (row b i) k) * w (ix2 k (mine h e))
      = Attention.project (fun i k => x (ix3 b i k)) (fun k c => W (ix2 k c)) (headOf d h) i e := by
  unfold Attention.project
  refine Finset.sum_congr rfl fun k _ => ?_
  rw [x_row m d x hx, hw, col_headOf]

include hx in
/-- A device's rotated projection, by its heads. -/
theorem rotate_at (b : Fin 2) (w : FVec Ideal ⟨2, ![512, 256]⟩ .bf16) (W : FVec Ideal ⟨2, ![512, 1024]⟩ .bf16)
    (hw : ∀ k c, w (ix2 k c) = W (ix2 k (colOf d c))) (h : Fin 4) (i : Fin 128) (e : Fin 64) :
    (∑ k : Fin 512, (opsAt m d).x (ix2 (row b i) k) * w (ix2 k (mine h e))) * (opsAt m d).cs (ix2 (row b i) (mine h e))
      + (∑ c' : Fin 256, (∑ k : Fin 512, (opsAt m d).x (ix2 (row b i) k) * w (ix2 k c')) * (opsAt m d).sw (ix2 c' (mine h e)))
          * (opsAt m d).sn (ix2 (row b i) (mine h e))
      = Attention.rotate (Attention.project (fun i k => x (ix3 b i k)) (fun k c => W (ix2 k c)) (headOf d h)) i e := by
  have hcs : (opsAt m d).cs (ix2 (row b i) (mine h e)) = Ideal.cos (Attention.angle i (Attention.pair e)) :=
    (cs_at m d _ _).trans (by rw [at_row, at_mine])
  have hsn : (opsAt m d).sn (ix2 (row b i) (mine h e))
      = Ideal.sin (Attention.angle i (Attention.pair e)) * (if (mine h e).val % 2 < 1 then -1 else 1) :=
    (sn_at m d _ _).trans (by rw [at_row, at_mine])
  have hsw : ∀ c', (opsAt m d).sw (ix2 c' (mine h e)) = ((if c' = other (mine h e) then 1 else 0 : ℝ) : EReal) := fun c' => sw_at m d _ _
  have hp : (fun e => ∑ k : Fin 512, (opsAt m d).x (ix2 (row b i) k) * w (ix2 k (mine h e)))
      = Attention.project (fun i k => x (ix3 b i k)) (fun k c => W (ix2 k c)) (headOf d h) i :=
    funext fun e => project_at m d x hx b w W hw h i e
  have ht := turn (fun c' => ∑ k : Fin 512, (opsAt m d).x (ix2 (row b i) k) * w (ix2 k c')) h e (Ideal.sin (Attention.angle i (Attention.pair e)))
  rw [hp] at ht
  unfold Attention.rotate
  rw [hcs, hsn, project_at m d x hx b w W hw h i e, ← ht]
  simp only [hsw]

include hx hq hk hv in
/-- A device's heads are its share of the whole layer's. -/
theorem heads_at (b : Fin 2) (i : Fin 128) (c : Fin 256) :
    ctxV (opsAt m d) (ix2 (row b i) c) = Attention.heads (fun i k => x (ix3 b i k)) (fun k c => wq (ix2 k c)) (fun k c => wk (ix2 k c))
      (fun k c => wv (ix2 k c)) i (colOf d c) := by
  have hb : (⟨(row b i).val / 128, by omega⟩ : Fin 2) = b := Fin.ext (by show (128 * b.val + i.val) / 128 = b.val; omega)
  have hd : (⟨(colOf d c).val / 64, by omega⟩ : Fin 16) = headOf d (⟨c.val / 64, by omega⟩ : Fin 4) :=
    Fin.ext (by show (256 * d.val + c.val) / 64 = 4 * d.val + c.val / 64; omega)
  have he : (⟨(colOf d c).val % 64, by omega⟩ : Fin 64) = ⟨c.val % 64, by omega⟩ :=
    Fin.ext (by show (256 * d.val + c.val) % 64 = c.val % 64; omega)
  rw [ctxV_apply]
  unfold Attention.heads
  rw [hb, hd, he, at_row]
  have hQ : ∀ k c, (opsAt m d).wq (ix2 k c) = wq (ix2 k (colOf d c)) := fun k c =>
    (congrFun ((V_main_arg1 m d).trans hq) (ix2 k c)).trans (cols_at d wq k c)
  have hK : ∀ k c, (opsAt m d).wk (ix2 k c) = wk (ix2 k (colOf d c)) := fun k c =>
    (congrFun ((V_main_arg2 m d).trans hk) (ix2 k c)).trans (cols_at d wk k c)
  have hV : ∀ k c, (opsAt m d).wv (ix2 k c) = wv (ix2 k (colOf d c)) := fun k c =>
    (congrFun ((V_main_arg3 m d).trans hv) (ix2 k c)).trans (cols_at d wv k c)
  simp only [qRot_apply, kRot_apply, vPro_apply, rotate_at m d x hx b (opsAt m d).wq wq hQ, rotate_at m d x hx b (opsAt m d).wk wk hK,
    project_at m d x hx b (opsAt m d).wv wv hV]

include ho in
theorem wo_at (c : Fin 256) (j : Fin 512) : (opsAt m d).wo (ix2 c j) = wo (ix2 (colOf d c) j) :=
  (congrFun ((V_main_arg4 m d).trans ho) (ix2 c j)).trans (rows_at d wo c j)

end One

/-- A sum over all the columns, device by device. -/
theorem sum_cols (f : Fin 1024 → EReal) : ∑ c, f c = ∑ d : Fin 4, ∑ k : Fin 256, f (colOf d k) := by
  rw [← Fintype.sum_prod_type']
  refine (Fintype.sum_equiv (finProdFinEquiv (m := 4) (n := 256)) (fun p => f (colOf p.1 p.2)) f fun p => ?_).symm
  exact congrArg f (Fin.ext (by show 256 * p.1.val + p.2.val = p.2.val + 256 * p.1.val; omega))

/-- From arguments that are the blocks of the reference's, the kernel's answer is the reference's. -/
theorem answer_eq (m : (ℓ : Loc nD τ sig) → Buf (Elt Ideal) ℓ)
    (x : FVec Ideal ⟨3, ![2, 128, 512]⟩ .bf16) (wq wk wv : FVec Ideal ⟨2, ![512, 1024]⟩ .bf16) (wo : FVec Ideal ⟨2, ![1024, 512]⟩ .bf16)
    (hx : ∀ d : Dev nD, m (d.tc.loc main_arg0) = x)
    (hq : ∀ d : Dev nD, m (d.tc.loc main_arg1) = Layout.block ⟨2, ![512, 256]⟩ ⟨2, ![512, 1024]⟩ 1 4 d wq tiles_cols)
    (hk : ∀ d : Dev nD, m (d.tc.loc main_arg2) = Layout.block ⟨2, ![512, 256]⟩ ⟨2, ![512, 1024]⟩ 1 4 d wk tiles_cols)
    (hv : ∀ d : Dev nD, m (d.tc.loc main_arg3) = Layout.block ⟨2, ![512, 256]⟩ ⟨2, ![512, 1024]⟩ 1 4 d wv tiles_cols)
    (ho : ∀ d : Dev nD, m (d.tc.loc main_arg4) = Layout.block ⟨2, ![256, 512]⟩ ⟨2, ![1024, 512]⟩ 0 4 d wo tiles_rows) :
    ReferenceIdeal.Own.refOut x wq wk wv wo = answer m := by
  funext a
  obtain ⟨b, i, j, rfl⟩ : ∃ (b : Fin 2) (i : Fin 128) (j : Fin 512), a = ix3 b i j := ⟨a 0, a 1, a 2, eq_ix3 a⟩
  have h : answer m (ix3 b i j) = result m (ix2 (row b i) j) := by
    pointwise [answer]
    exact congrArg (fun r => result m (ix2 r j)) (Fin.ext (by show b.val * 128 + i.val = 128 * b.val + i.val; omega))
  rw [h, ReferenceIdeal.Own.refOut_apply]
  unfold Attention.layer
  rw [sum_cols]
  refine ((out_apply (opsAt m) (row b i) j).trans ?_).symm
  refine Finset.sum_congr rfl fun d _ => Finset.sum_congr rfl fun c _ => ?_
  rw [heads_at m d x wq wk wv (hx d) (hq d) (hk d) (hv d), wo_at m d wo (ho d)]

end Cert.KernelIdeal.Own
-- ==== Proof.lean ====
/-
  The claims, from the runs of the three programs and the equation between the two results on the reals.
-/
module

public import proofs.«01_k».proof.Defs
public import proofs.«01_k».proof.Proof.Kernel.Whole
public import proofs.«01_k».proof.Proof.KernelIdeal.Whole
public import proofs.«01_k».proof.Proof.Value.Both

@[expose] public section

noncomputable section

namespace Cert.Proof

open Idealize.ShloMosaic Idealize.SL.Sem

theorem frame_kernel : Cert.quiescent_Kernel := fun m g _ =>
  (θ_run Cert.Kernel.defs _ _).mono (fun _ h => ⟨fun c => (h.1 c).2, h.2⟩) (Cert.Kernel.Own.run_main (F := Bits) m g)

theorem frame_ideal : Cert.quiescent_KernelIdeal := fun m g _ =>
  (θ_run Cert.KernelIdeal.defs _ _).mono (fun _ h => ⟨fun c => (h.1 c).2, h.2⟩) (Cert.KernelIdeal.Own.run_main (F := Ideal) m g)

theorem algebraic : Cert.algebraic_KernelIdeal_ReferenceIdeal := fun m g m' g' _ hagree =>
  ⟨Cert.KernelIdeal.Own.answer m,
    (θ_run Cert.KernelIdeal.defs _ _).mono (fun _ h => h.1) (Cert.KernelIdeal.Own.run_main (F := Ideal) m g),
    Cert.ReferenceIdeal.Own.ref_run m' g' _ (Cert.KernelIdeal.Own.answer_eq m _ _ _ _ _ (fun d => (hagree d).1) (fun d => (hagree d).2.1)
      (fun d => (hagree d).2.2.1) (fun d => (hagree d).2.2.2.1) (fun d => (hagree d).2.2.2.2))⟩

theorem claim : Cert.Claim := ⟨Cert.Kernel.Gen.facts, Cert.KernelIdeal.Gen.facts, Cert.ReferenceIdeal.Gen.facts,
  frame_kernel, frame_ideal, Cert.ReferenceIdeal.Own.frame, trivial, algebraic⟩

end Cert.Proof

end
